-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x128x56x56 : Shape := ⟨4, ![32, 128, 56, 56]⟩
abbrev S256x128x3x3 : Shape := ⟨4, ![256, 128, 3, 3]⟩
abbrev S256 : Shape := ⟨1, ![256]⟩
abbrev S32x56x56x128 : Shape := ⟨4, ![32, 56, 56, 128]⟩
abbrev S32x3136x128 : Shape := ⟨3, ![32, 3136, 128]⟩
abbrev S3x3x128x256 : Shape := ⟨4, ![3, 3, 128, 256]⟩
abbrev S1152x256 : Shape := ⟨2, ![1152, 256]⟩
abbrev S1x256 : Shape := ⟨2, ![1, 256]⟩
abbrev S3264 : Shape := ⟨1, ![3264]⟩
abbrev S_ : Shape := ⟨0, ![]⟩
abbrev S1x3264 : Shape := ⟨2, ![1, 3264]⟩
abbrev S2x3264 : Shape := ⟨2, ![2, 3264]⟩
abbrev S2x3264x1 : Shape := ⟨3, ![2, 3264, 1]⟩
abbrev S2x3264x128 : Shape := ⟨3, ![2, 3264, 128]⟩
abbrev S32x3136x256 : Shape := ⟨3, ![32, 3136, 256]⟩
abbrev S2x3136x128 : Shape := ⟨3, ![2, 3136, 128]⟩
abbrev S2x3136x256 : Shape := ⟨3, ![2, 3136, 256]⟩
abbrev S64x128 : Shape := ⟨2, ![64, 128]⟩
abbrev S1x64x128 : Shape := ⟨3, ![1, 64, 128]⟩
abbrev S1x3136x128 : Shape := ⟨3, ![1, 3136, 128]⟩
abbrev S3136x128 : Shape := ⟨2, ![3136, 128]⟩
abbrev S1x3264x128 : Shape := ⟨3, ![1, 3264, 128]⟩
abbrev S3264x128 : Shape := ⟨2, ![3264, 128]⟩
abbrev S3263x128 : Shape := ⟨2, ![3263, 128]⟩
abbrev S1x3263x128 : Shape := ⟨3, ![1, 3263, 128]⟩
abbrev S3136x1152 : Shape := ⟨2, ![3136, 1152]⟩
abbrev S3136x256 : Shape := ⟨2, ![3136, 256]⟩
abbrev S1x3136x256 : Shape := ⟨3, ![1, 3136, 256]⟩
abbrev S32x56x56x256 : Shape := ⟨4, ![32, 56, 56, 256]⟩
abbrev S32x256x56x56 : Shape := ⟨4, ![32, 256, 56, 56]⟩

abbrev nBuf : Space → Nat
  | .hbm => 75
  | .vmem => 10
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S32x56x56x128, .f32⟩
  | .hbm, ⟨4, _⟩ => ⟨S32x3136x128, .f32⟩
  | .hbm, ⟨5, _⟩ => ⟨S3x3x128x256, .f32⟩
  | .hbm, ⟨6, _⟩ => ⟨S1152x256, .f32⟩
  | .hbm, ⟨7, _⟩ => ⟨S1152x256, .bf16⟩
  | .hbm, ⟨8, _⟩ => ⟨S1x256, .f32⟩
  | .hbm, ⟨9, _⟩ => ⟨S3264, .i32⟩
  | .hbm, ⟨10, _⟩ => ⟨S_, .i32⟩
  | .hbm, ⟨11, _⟩ => ⟨S3264, .i32⟩
  | .hbm, ⟨12, _⟩ => ⟨S3264, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S3264, .i32⟩
  | .hbm, ⟨20, _⟩ => ⟨S3264, .i32⟩
  | .hbm, ⟨21, _⟩ => ⟨S_, .i32⟩
  | .hbm, ⟨22, _⟩ => ⟨S3264, .i32⟩
  | .hbm, ⟨23, _⟩ => ⟨S3264, .i1⟩
  | .hbm, ⟨24, _⟩ => ⟨S_, .i32⟩
  | .hbm, ⟨25, _⟩ => ⟨S3264, .i32⟩
  | .hbm, ⟨26, _⟩ => ⟨S3264, .i1⟩
  | .hbm, ⟨27, _⟩ => ⟨S_, .i32⟩
  | .hbm, ⟨28, _⟩ => ⟨S_, .i1⟩
  | .hbm, ⟨29, _⟩ => ⟨S3264, .i1⟩
  | .hbm, ⟨30, _⟩ => ⟨S3264, .i1⟩
  | .hbm, ⟨31, _⟩ => ⟨S3264, .i1⟩
  | .hbm, ⟨32, _⟩ => ⟨S3264, .i32⟩
  | .hbm, ⟨33, _⟩ => ⟨S3264, .i32⟩
  | .hbm, ⟨34, _⟩ => ⟨S3264, .i32⟩
  | .hbm, ⟨35, _⟩ => ⟨S_, .i32⟩
  | .hbm, ⟨36, _⟩ => ⟨S3264, .i32⟩
  | .hbm, ⟨37, _⟩ => ⟨S3264, .i1⟩
  | .hbm, ⟨38, _⟩ => ⟨S_, .i32⟩
  | .hbm, ⟨39, _⟩ => ⟨S3264, .i32⟩
  | .hbm, ⟨40, _⟩ => ⟨S3264, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S3264, .i32⟩
  | .hbm, ⟨48, _⟩ => ⟨S3264, .i32⟩
  | .hbm, ⟨49, _⟩ => ⟨S_, .i32⟩
  | .hbm, ⟨50, _⟩ => ⟨S3264, .i32⟩
  | .hbm, ⟨51, _⟩ => ⟨S3264, .i1⟩
  | .hbm, ⟨52, _⟩ => ⟨S_, .i32⟩
  | .hbm, ⟨53, _⟩ => ⟨S3264, .i32⟩
  | .hbm, ⟨54, _⟩ => ⟨S3264, .i1⟩
  | .hbm, ⟨55, _⟩ => ⟨S_, .i32⟩
  | .hbm, ⟨56, _⟩ => ⟨S_, .i1⟩
  | .hbm, ⟨57, _⟩ => ⟨S3264, .i1⟩
  | .hbm, ⟨58, _⟩ => ⟨S3264, .i1⟩
  | .hbm, ⟨59, _⟩ => ⟨S3264, .i1⟩
  | .hbm, ⟨60, _⟩ => ⟨S3264, .i32⟩
  | .hbm, ⟨61, _⟩ => ⟨S3264, .i32⟩
  | .hbm, ⟨62, _⟩ => ⟨S3264, .i32⟩
  | .hbm, ⟨63, _⟩ => ⟨S_, .i32⟩
  | .hbm, ⟨64, _⟩ => ⟨S3264, .i32⟩
  | .hbm, ⟨65, _⟩ => ⟨S3264, .i1⟩
  | .hbm, ⟨66, _⟩ => ⟨S1x3264, .i1⟩
  | .hbm, ⟨67, _⟩ => ⟨S1x3264, .i1⟩
  | .hbm, ⟨68, _⟩ => ⟨S2x3264, .i1⟩
  | .hbm, ⟨69, _⟩ => ⟨S2x3264x1, .i1⟩
  | .hbm, ⟨70, _⟩ => ⟨S2x3264x128, .i1⟩
  | .hbm, ⟨71, _⟩ => ⟨S2x3264x128, .bf16⟩
  | .hbm, ⟨72, _⟩ => ⟨S32x3136x256, .f32⟩
  | .hbm, ⟨73, _⟩ => ⟨S32x56x56x256, .f32⟩
  | .hbm, ⟨74, _⟩ => ⟨S32x256x56x56, .f32⟩
  | .local _ .vmem, ⟨0, _⟩ => ⟨S2x3136x128, .f32⟩
  | .local _ .vmem, ⟨1, _⟩ => ⟨S2x3136x128, .f32⟩
  | .local _ .vmem, ⟨2, _⟩ => ⟨S1152x256, .bf16⟩
  | .local _ .vmem, ⟨3, _⟩ => ⟨S2x3264x128, .bf16⟩
  | .local _ .vmem, ⟨4, _⟩ => ⟨S1x256, .f32⟩
  | .local _ .vmem, ⟨5, _⟩ => ⟨S2x3136x256, .f32⟩
  | .local _ .vmem, ⟨6, _⟩ => ⟨S2x3136x256, .f32⟩
  | .local _ .vmem, ⟨7, _⟩ => ⟨S2x3264x128, .bf16⟩
  | .local _ .vmem, ⟨8, _⟩ => ⟨S2x3264x128, .bf16⟩
  | .local _ .vmem, ⟨9, _⟩ => ⟨S2x3264x128, .bf16⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v14 : Ref sig .tc := ⟨.hbm, 62, rfl⟩
abbrev main_c_4 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3136x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x3264x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x3136x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x128x56x56 : Shape := ⟨4, ![32, 128, 56, 56]⟩
abbrev S256x128x3x3 : Shape := ⟨4, ![256, 128, 3, 3]⟩
abbrev S256 : Shape := ⟨1, ![256]⟩
abbrev S_ : Shape := ⟨0, ![]⟩
abbrev S32x128x58x58 : Shape := ⟨4, ![32, 128, 58, 58]⟩
abbrev S32x256x56x56 : Shape := ⟨4, ![32, 256, 56, 56]⟩
abbrev S256x128x1x1 : Shape := ⟨4, ![256, 128, 1, 1]⟩
abbrev S256x128 : Shape := ⟨2, ![256, 128]⟩
abbrev S32x56x56x256 : Shape := ⟨4, ![32, 56, 56, 256]⟩
abbrev S1x256x1x1 : Shape := ⟨4, ![1, 256, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S32x128x56x56, .f32⟩
  | .hbm, ⟨1, _⟩ => ⟨S256x128x3x3, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S32x128x58x58, .f32⟩
  | .hbm, ⟨6, _⟩ => ⟨S_, .f32⟩
  | .hbm, ⟨7, _⟩ => ⟨S32x256x56x56, .f32⟩
  | .hbm, ⟨8, _⟩ => ⟨S256x128x1x1, .f32⟩
  | .hbm, ⟨9, _⟩ => ⟨S256x128, .f32⟩
  | .hbm, ⟨10, _⟩ => ⟨S32x128x56x56, .f32⟩
  | .hbm, ⟨11, _⟩ => ⟨S32x56x56x256, .f32⟩
  | .hbm, ⟨12, _⟩ => ⟨S32x256x56x56, .f32⟩
  | .hbm, ⟨13, _⟩ => ⟨S32x256x56x56, .f32⟩
  | .hbm, ⟨14, _⟩ => ⟨S256x128x1x1, .f32⟩
  | .hbm, ⟨15, _⟩ => ⟨S256x128, .f32⟩
  | .hbm, ⟨16, _⟩ => ⟨S32x128x56x56, .f32⟩
  | .hbm, ⟨17, _⟩ => ⟨S32x56x56x256, .f32⟩
  | .hbm, ⟨18, _⟩ => ⟨S32x256x56x56, .f32⟩
  | .hbm, ⟨19, _⟩ => ⟨S32x256x56x56, .f32⟩
  | .hbm, ⟨20, _⟩ => ⟨S256x128x1x1, .f32⟩
  | .hbm, ⟨21, _⟩ => ⟨S256x128, .f32⟩
  | .hbm, ⟨22, _⟩ => ⟨S32x128x56x56, .f32⟩
  | .hbm, ⟨23, _⟩ => ⟨S32x56x56x256, .f32⟩
  | .hbm, ⟨24, _⟩ => ⟨S32x256x56x56, .f32⟩
  | .hbm, ⟨25, _⟩ => ⟨S32x256x56x56, .f32⟩
  | .hbm, ⟨26, _⟩ => ⟨S256x128x1x1, .f32⟩
  | .hbm, ⟨27, _⟩ => ⟨S256x128, .f32⟩
  | .hbm, ⟨28, _⟩ => ⟨S32x128x56x56, .f32⟩
  | .hbm, ⟨29, _⟩ => ⟨S32x56x56x256, .f32⟩
  | .hbm, ⟨30, _⟩ => ⟨S32x256x56x56, .f32⟩
  | .hbm, ⟨31, _⟩ => ⟨S32x256x56x56, .f32⟩
  | .hbm, ⟨32, _⟩ => ⟨S256x128x1x1, .f32⟩
  | .hbm, ⟨33, _⟩ => ⟨S256x128, .f32⟩
  | .hbm, ⟨34, _⟩ => ⟨S32x128x56x56, .f32⟩
  | .hbm, ⟨35, _⟩ => ⟨S32x56x56x256, .f32⟩
  | .hbm, ⟨36, _⟩ => ⟨S32x256x56x56, .f32⟩
  | .hbm, ⟨37, _⟩ => ⟨S32x256x56x56, .f32⟩
  | .hbm, ⟨38, _⟩ => ⟨S256x128x1x1, .f32⟩
  | .hbm, ⟨39, _⟩ => ⟨S256x128, .f32⟩
  | .hbm, ⟨40, _⟩ => ⟨S32x128x56x56, .f32⟩
  | .hbm, ⟨41, _⟩ => ⟨S32x56x56x256, .f32⟩
  | .hbm, ⟨42, _⟩ => ⟨S32x256x56x56, .f32⟩
  | .hbm, ⟨43, _⟩ => ⟨S32x256x56x56, .f32⟩
  | .hbm, ⟨44, _⟩ => ⟨S256x128x1x1, .f32⟩
  | .hbm, ⟨45, _⟩ => ⟨S256x128, .f32⟩
  | .hbm, ⟨46, _⟩ => ⟨S32x128x56x56, .f32⟩
  | .hbm, ⟨47, _⟩ => ⟨S32x56x56x256, .f32⟩
  | .hbm, ⟨48, _⟩ => ⟨S32x256x56x56, .f32⟩
  | .hbm, ⟨49, _⟩ => ⟨S32x256x56x56, .f32⟩
  | .hbm, ⟨50, _⟩ => ⟨S256x128x1x1, .f32⟩
  | .hbm, ⟨51, _⟩ => ⟨S256x128, .f32⟩
  | .hbm, ⟨52, _⟩ => ⟨S32x128x56x56, .f32⟩
  | .hbm, ⟨53, _⟩ => ⟨S32x56x56x256, .f32⟩
  | .hbm, ⟨54, _⟩ => ⟨S32x256x56x56, .f32⟩
  | .hbm, ⟨55, _⟩ => ⟨S32x256x56x56, .f32⟩
  | .hbm, ⟨56, _⟩ => ⟨S256x128x1x1, .f32⟩
  | .hbm, ⟨57, _⟩ => ⟨S256x128, .f32⟩
  | .hbm, ⟨58, _⟩ => ⟨S32x128x56x56, .f32⟩
  | .hbm, ⟨59, _⟩ => ⟨S32x56x56x256, .f32⟩
  | .hbm, ⟨60, _⟩ => ⟨S32x256x56x56, .f32⟩
  | .hbm, ⟨61, _⟩ => ⟨S32x256x56x56, .f32⟩
  | .hbm, ⟨62, _⟩ => ⟨S1x256x1x1, .f32⟩
  | .hbm, ⟨63, _⟩ => ⟨S32x256x56x56, .f32⟩
  | .hbm, ⟨64, _⟩ => ⟨S32x256x56x56, .f32⟩
  | _, _ => ⟨S32x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩

abbrev nD : Nat := 1
abbrev τ : Topo := Topo.v7x

variable {F : FTy → Type} [FloatOps F]
-- ==== Proof.KernelIdeal.Taps.lean ====
/-
  What the convolution's body computes, as functions of the four blocks it is handed, and the reads of the three
  scratch buffers that lead there.

  Per image the body keeps three copies of the image's pixel rows, each with sixty-four margin rows before and after:
  the rows themselves (`cen`), and the rows moved down and up by one pixel and multiplied by the two column masks
  (`lef`, `rig`). A tap of the three by three window is a run of 3136 consecutive rows of one of the copies (`tap`);
  the nine taps side by side, times the weights, plus the bias, are the image's output rows (`out`).
-/
module

public import proofs.«01_k».proof.Proof.Gen.KernelIdeal
public import proofs.«01_k».proof.Proof.Gen.KernelIdeal.Skeleton
public import Idealize.ShloMosaic.Lib.Exec
public import Idealize.ShloMosaic.Lib.WritesUnit
public import Idealize.ShloMosaic.Lib.Pointwise

@[expose] public section

set_option maxRecDepth 16384

noncomputable section

namespace Cert.KernelIdeal.Conv

open Cert.KernelIdeal Cert.KernelIdeal.Gen
open Idealize.ShloMosaic Idealize.ShloMosaic.TcCoe
open Idealize.SL.Sem

variable {F : FTy → Type} [FloatOps F]

/-! ## The functions -/

/-- The zero that fills the margin rows. -/
abbrev zer : F .bf16 := Scalar.ofBits .bf16 0x0000#16

/-- The images' rows between their margins: row `64 + r` is row `r` of the image, narrowed; the margin rows are zero. -/
def cen (x : FVec F S2x3136x128 .f32) : FVec F S2x3264x128 .bf16 := fun j =>
  if h : 64 ≤ (j 1).val ∧ (j 1).val < 3200 then
    truncf .bf16 x bitsLt_bf16_f32 (ix3 (j 0) ⟨(j 1).val - 64, by omega⟩ (j 2))
  else zer

/-- The rows moved down by one, times the first mask; the row with no predecessor is never read. -/
def lef (x : FVec F S2x3136x128 .f32) (mk : FVec F S2x3264x128 .bf16) : FVec F S2x3264x128 .bf16 := fun j =>
  if h : 1 ≤ (j 1).val then
    FloatOps.mulf (cen x (ix3 (j 0) ⟨(j 1).val - 1, by have := (j 1).isLt; change (j 1).val < 3264 at this; omega⟩ (j 2)))
      (mk (ix3 0 (j 1) (j 2)))
  else zer

/-- The rows moved up by one, times the second mask; the row with no successor is never read. -/
def rig (x : FVec F S2x3136x128 .f32) (mk : FVec F S2x3264x128 .bf16) : FVec F S2x3264x128 .bf16 := fun j =>
  if h : (j 1).val < 3263 then
    FloatOps.mulf (cen x (ix3 (j 0) ⟨(j 1).val + 1, by omega⟩ (j 2))) (mk (ix3 1 (j 1) (j 2)))
  else zer

/-- A tap: the 3136 rows of image `im` of a copy `s` that begin at row `o`. -/
def tap (s : FVec F S2x3264x128 .bf16) (im : Fin 2) (o : Nat) (ho : o ≤ 128) : FVec F S3136x128 .bf16 := fun p =>
  s (ix3 im ⟨o + (p 0).val, by have := (p 0).isLt; change (p 0).val < 3136 at this; omega⟩ (p 1))

/-- One image's output rows. -/
def row (x : FVec F S2x3136x128 .f32) (w : FVec F S1152x256 .bf16) (mk : FVec F S2x3264x128 .bf16) (b : FVec F S1x256 .f32)
    (im : Fin 2) : FVec F S1x3136x256 .f32 :=
  k0_pay9 (tap (lef x mk) im 8 (by omega)) (tap (cen x) im 8 (by omega)) (tap (rig x mk) im 8 (by omega))
    (tap (lef x mk) im 64 (by omega)) (tap (cen x) im 64 (by omega)) (tap (rig x mk) im 64 (by omega))
    (tap (lef x mk) im 120 (by omega)) (tap (cen x) im 120 (by omega)) (tap (rig x mk) im 120 (by omega)) w b

/-- The block the body leaves: both images' output rows. -/
def out (x : FVec F S2x3136x128 .f32) (w : FVec F S1152x256 .bf16) (mk : FVec F S2x3264x128 .bf16) (b : FVec F S1x256 .f32) :
    FVec F S2x3136x256 .f32 := fun j => row x w mk b (j 0) (ix3 0 (j 1) (j 2))

/-- The margin rows of both images hold zero. -/
def Margin (q : FVec F S2x3264x128 .bf16) : Prop :=
  ∀ (im : Fin 2) (r : Fin 3264) (l : Fin 128), (r.val < 64 ∨ 3200 ≤ r.val) → q (ix3 im r l) = zer

/-! ## The payloads at an index -/

theorem pay6_at (v : Vec F S1x3136x128 .f32) (x : FVec F S2x3136x128 .f32) (i : Fin 2) (r : Fin 3136) (l : Fin 128)
    (h : v (ix3 0 r l) = x (ix3 i r l)) : k0_pay6 v (ix3 0 r l) = truncf .bf16 x bitsLt_bf16_f32 (ix3 i r l) := by
  pointwise [k0_pay6]
  rw [h]

theorem pay11_at (v : Vec F S1x3136x128 .f32) (x : FVec F S2x3136x128 .f32) (i : Fin 2) (r : Fin 3136) (l : Fin 128)
    (h : v (ix3 0 r l) = x (ix3 i r l)) :
    k0_pay11 (k0_pay10 v) (ix3 0 r l) = truncf .bf16 x bitsLt_bf16_f32 (ix3 i r l) := by
  pointwise [k0_pay11, k0_pay10]
  rw [h]

theorem pay7_at (v : Vec F S3263x128 .bf16) (u : Vec F S1x3263x128 .bf16) (r : Fin 3263) (l : Fin 128) :
    k0_pay7 v u (ix3 0 r l) = FloatOps.mulf (v (ix2 r l)) (u (ix3 0 r l)) := by
  pointwise [k0_pay7]

theorem pay8_eq : k0_pay8 (F := F) = k0_pay7 := rfl
theorem pay12_eq : k0_pay12 (F := F) = k0_pay7 := rfl
theorem pay13_eq : k0_pay13 (F := F) = k0_pay7 := rfl
theorem pay1_eq : k0_pay1 (F := F) = k0_pay9 := rfl

theorem pay2_at (r : Fin 64) (l : Fin 128) : k0_pay2 (F := F) (ix3 0 r l) = zer := by
  pointwise [k0_pay2]

theorem pay3_eq : k0_pay3 (F := F) = k0_pay2 := rfl
theorem pay4_eq : k0_pay4 (F := F) = k0_pay2 := rfl
theorem pay5_eq : k0_pay5 (F := F) = k0_pay2 := rfl

/-! ## Reads of the scratch buffers -/

section Reads

variable {sig : RefSig} {κ : Kind} {sp : Space}

/-- A load of rows `o …` of image `im` through the image's own view reads the buffer at those rows. -/
theorem image_load {n : Nat} (v : View sig κ sp S2x3264x128 .bf16) (g : v.ty.Contents (Elt F)) (im : Fin 2) (o : Nat)
    (inb : ∀ a, (![im.val, 0, 0] : Fin 3 → Nat) a + S1x3264x128.size a ≤ S2x3264x128.size a)
    (inb' : ∀ a, (![o, 0] : Fin 2 → Nat) a + (![n, 128] : Fin 2 → Nat) a ≤ S3264x128.size a)
    (h0 hs hst hR) (p : Fin n) (l : Fin 128) (r : Fin 3264) (hr : r.val = o + p.val) :
    LoadRect.valAlong (lr := (Rect.unit (s := S3264x128) ![o, 0] ![n, 128] inb').toLoadRect) hR
        (v.readAt (Elt F) ((Rect.unit (s := S2x3264x128) ![im.val, 0, 0] S1x3264x128.size inb).withinL
          ((Rect.unit (s := S3264x128) ![o, 0] ![n, 128] inb').toLoadRect.consLift ![1, 3264, 128] h0 hs) hst) g) (ix2 p l)
      = v.read (Elt F) g (ix3 im r l) := by
  have hx : Shape.reshapeEquiv hR (ix2 p l) = Fin.cons ⟨0, Nat.one_pos⟩ (ix2 p l) :=
    Shape.reshapeEquiv_cons_one (d := ![n, 128]) _ _
  show v.readAt (Elt F) _ g (Shape.reshapeEquiv hR (ix2 p l)) = _
  rw [hx, View.readAt_apply]
  refine congrArg (v.read (Elt F) g) (funext fun a => Fin.ext ?_)
  fin_cases a
  · show im.val + 0 + 1 * 0 = im.val
    omega
  · show 0 + o + 1 * p.val = r.val
    omega
  · show 0 + 0 + 1 * l.val = l.val
    omega

/-- A load of rows `o …` of image `im` reads the buffer at those rows. -/
theorem rows_load {d : Fin 3 → Nat} {e : EltTy} {n w : Nat} (v : View sig κ sp ⟨3, d⟩ e) (g : v.ty.Contents (Elt F)) {im o : Nat}
    (inb : ∀ a, (![im, o, 0] : Fin 3 → Nat) a + (![1, n, w] : Fin 3 → Nat) a ≤ d a) (z : Fin 1) (p : Fin n) (l : Fin w)
    (j : (⟨3, d⟩ : Shape).Idx) (h0 : (j 0).val = im) (h1 : (j 1).val = o + p.val) (h2 : (j 2).val = l.val) :
    v.readAt (Elt F) (Rect.unit (s := ⟨3, d⟩) ![im, o, 0] ![1, n, w] inb).toLoadRect g (ix3 z p l) = v.read (Elt F) g j := by
  rw [View.readAt_apply]
  refine congrArg (v.read (Elt F) g) (funext fun a => Fin.ext ?_)
  fin_cases a
  · show im + 1 * z.val = (j 0).val
    omega
  · show o + 1 * p.val = (j 1).val
    omega
  · show 0 + 1 * l.val = (j 2).val
    omega

/-- A load of all of a buffer reads it. -/
theorem whole_load {s : Shape} {e : EltTy} (v : View sig κ sp s e) (g : v.ty.Contents (Elt F)) {off : Fin s.rank → Nat}
    (inb : ∀ a, off a + s.size a ≤ s.size a) :
    v.readAt (Elt F) (Rect.unit off s.size inb).toLoadRect g = v.read (Elt F) g := by
  funext j
  rw [View.readAt_apply]
  refine congrArg (v.read (Elt F) g) (funext fun a => Fin.ext ?_)
  show off a + 1 * (j a).val = (j a).val
  have := inb a
  omega

/-- The output block after both images' rows are stored. -/
theorem out_read (v : View sig κ sp S2x3136x256 .f32) (f : v.ty.Contents (Elt F))
    (inb0 : ∀ a, (![0, 0, 0] : Fin 3 → Nat) a + (![1, 3136, 256] : Fin 3 → Nat) a ≤ S2x3136x256.size a)
    (inb1 : ∀ a, (![1, 0, 0] : Fin 3 → Nat) a + (![1, 3136, 256] : Fin 3 → Nat) a ≤ S2x3136x256.size a)
    (p0 p1 : FVec F S1x3136x256 .f32) (x : FVec F S2x3136x128 .f32) (w : FVec F S1152x256 .bf16) (mk : FVec F S2x3264x128 .bf16)
    (b : FVec F S1x256 .f32) (h0 : p0 = row x w mk b 0) (h1 : p1 = row x w mk b 1) :
    v.read (Elt F) (v.writes (Elt F) f [⟨Rect.unit ![1, 0, 0] ![1, 3136, 256] inb1, p1⟩, ⟨Rect.unit ![0, 0, 0] ![1, 3136, 256] inb0, p0⟩])
      = out x w mk b := by
  subst h0 h1
  funext j
  idx_vars j
  rcases (show j0 = 0 ∨ j0 = 1 by omega) with rfl | rfl
  · rw [View.read_writes_cons_unit_of_not_mem v f inb1 _ _ (ix3 0 j1 j2) rfl 0 (.inl Nat.one_pos)]
    refine View.read_writes_cons_unit_of_mem v f inb0 (row x w mk b 0) [] (ix3 0 j1 j2) (ix3 0 j1 j2) rfl fun a => ?_
    fin_cases a
    · rfl
    · exact (Nat.zero_add j1.val).symm
    · exact (Nat.zero_add j2.val).symm
  · refine View.read_writes_cons_unit_of_mem v f inb1 (row x w mk b 1) _ (ix3 1 j1 j2) (ix3 0 j1 j2) rfl fun a => ?_
    fin_cases a
    · rfl
    · exact (Nat.zero_add j1.val).symm
    · exact (Nat.zero_add j2.val).symm

variable (v : View sig κ sp S2x3264x128 .bf16) (f : v.ty.Contents (Elt F))

/-- Under a store of `n` rows of image `im` from row `o`, a row among them reads the store's payload. -/
theorem hit {im o n : Nat} (inb : ∀ a, (![im, o, 0] : Fin 3 → Nat) a + (![1, n, 128] : Fin 3 → Nat) a ≤ S2x3264x128.size a)
    (pay : (Rect.unit (s := S2x3264x128) ![im, o, 0] ![1, n, 128] inb).shape.Idx → Elt F .bf16)
    (L : List (View.Piece (Elt F) S2x3264x128 .bf16)) (i : Fin 2) (r : Fin 3264) (l : Fin 128) (p : Fin n) (hi : i.val = im)
    (hp : r.val = o + p.val) :
    v.read (Elt F) (v.writes (Elt F) f (⟨Rect.unit ![im, o, 0] ![1, n, 128] inb, pay⟩ :: L)) (ix3 i r l) = pay (ix3 0 p l) := by
  refine View.read_writes_cons_unit_of_mem v f inb pay L (ix3 i r l) (ix3 0 p l) rfl fun a => ?_
  fin_cases a
  · show i.val = im + 0
    omega
  · exact hp
  · show l.val = 0 + l.val
    omega

/-- A row outside the newest store, in another image or in other rows, reads what the stores before left. -/
theorem miss {im o n : Nat} (inb : ∀ a, (![im, o, 0] : Fin 3 → Nat) a + (![1, n, 128] : Fin 3 → Nat) a ≤ S2x3264x128.size a)
    (pay : (Rect.unit (s := S2x3264x128) ![im, o, 0] ![1, n, 128] inb).shape.Idx → Elt F .bf16)
    (L : List (View.Piece (Elt F) S2x3264x128 .bf16)) (i : Fin 2) (r : Fin 3264) (l : Fin 128)
    (h : i.val ≠ im ∨ r.val < o ∨ o + n ≤ r.val) :
    v.read (Elt F) (v.writes (Elt F) f (⟨Rect.unit ![im, o, 0] ![1, n, 128] inb, pay⟩ :: L)) (ix3 i r l)
      = v.read (Elt F) (v.writes (Elt F) f L) (ix3 i r l) := by
  rcases h with h | h
  · refine View.read_writes_cons_unit_of_not_mem v f inb pay L (ix3 i r l) rfl 0 ?_
    show i.val < im ∨ im + 1 ≤ i.val
    omega
  · refine View.read_writes_cons_unit_of_not_mem v f inb pay L (ix3 i r l) rfl 1 ?_
    show r.val < o ∨ o + n ≤ r.val
    omega

/-- The first buffer after image `im`'s rows are stored: the image's rows between zero margins. -/
theorem cen_read {im : Nat} (inb : ∀ a, (![im, 64, 0] : Fin 3 → Nat) a + (![1, 3136, 128] : Fin 3 → Nat) a ≤ S2x3264x128.size a)
    (pay : (Rect.unit (s := S2x3264x128) ![im, 64, 0] ![1, 3136, 128] inb).shape.Idx → Elt F .bf16)
    (L : List (View.Piece (Elt F) S2x3264x128 .bf16)) (x : FVec F S2x3136x128 .f32) (i : Fin 2) (hi : i.val = im)
    (hpay : ∀ (p : Fin 3136) (l : Fin 128), pay (ix3 0 p l) = truncf .bf16 x bitsLt_bf16_f32 (ix3 i p l))
    (r : Fin 3264) (l : Fin 128)
    (hm : r.val < 64 ∨ 3200 ≤ r.val → v.read (Elt F) (v.writes (Elt F) f L) (ix3 i r l) = zer) :
    v.read (Elt F) (v.writes (Elt F) f (⟨Rect.unit ![im, 64, 0] ![1, 3136, 128] inb, pay⟩ :: L)) (ix3 i r l)
      = cen x (ix3 i r l) := by
  by_cases h : 64 ≤ r.val ∧ r.val < 3200
  · rw [hit v f inb pay L i r l ⟨r.val - 64, by omega⟩ hi (by show r.val = 64 + (r.val - 64); omega), hpay]
    symm; unfold cen; exact dif_pos h
  · rw [miss v f inb pay L i r l (by omega), hm (by omega)]
    symm; unfold cen; exact dif_neg h

/-- The margin rows after the four stores of zeros. -/
theorem zeros_read (inb0 inb1 inb2 inb3) (i : Fin 2) (r : Fin 3264) (l : Fin 128) (h : r.val < 64 ∨ 3200 ≤ r.val) :
    v.read (Elt F) (v.writes (Elt F) f [⟨Rect.unit ![1, 3200, 0] ![1, 64, 128] inb3, k0_pay5⟩,
        ⟨Rect.unit ![1, 0, 0] ![1, 64, 128] inb2, k0_pay4⟩, ⟨Rect.unit ![0, 3200, 0] ![1, 64, 128] inb1, k0_pay3⟩,
        ⟨Rect.unit ![0, 0, 0] ![1, 64, 128] inb0, k0_pay2⟩]) (ix3 i r l) = zer := by
  rw [pay5_eq, pay4_eq, pay3_eq]
  rcases (show i = 0 ∨ i = 1 by omega) with rfl | rfl <;> rcases h with h | h
  · rw [miss v f inb3 _ _ 0 r l (.inl Nat.zero_ne_one), miss v f inb2 _ _ 0 r l (.inl Nat.zero_ne_one),
      miss v f inb1 _ _ 0 r l (by omega), hit v f inb0 _ _ 0 r l ⟨r.val, h⟩ rfl (Nat.zero_add _).symm, pay2_at]
  · rw [miss v f inb3 _ _ 0 r l (.inl Nat.zero_ne_one), miss v f inb2 _ _ 0 r l (.inl Nat.zero_ne_one),
      hit v f inb1 _ _ 0 r l ⟨r.val - 3200, by omega⟩ rfl (by show r.val = 3200 + (r.val - 3200); omega), pay2_at]
  · rw [miss v f inb3 _ _ 1 r l (by omega), hit v f inb2 _ _ 1 r l ⟨r.val, h⟩ rfl (Nat.zero_add _).symm, pay2_at]
  · rw [hit v f inb3 _ _ 1 r l ⟨r.val - 3200, by omega⟩ rfl (by show r.val = 3200 + (r.val - 3200); omega), pay2_at]

/-- The second buffer after image `im`'s rows, moved down by one, are blended into it. -/
theorem lef_read {im : Nat} (inb : ∀ a, (![im, 0, 0] : Fin 3 → Nat) a + (![1, 3264, 128] : Fin 3 → Nat) a ≤ S2x3264x128.size a)
    (old : FVec F S1x3264x128 .bf16) (hsl) (a : Vec F S3263x128 .bf16) (u : Vec F S1x3263x128 .bf16)
    (L : List (View.Piece (Elt F) S2x3264x128 .bf16)) (x : FVec F S2x3136x128 .f32) (mk : FVec F S2x3264x128 .bf16) (i : Fin 2)
    (hi : i.val = im)
    (ha : ∀ (p : Fin 3263) (l : Fin 128), a (ix2 p l) = cen x (ix3 i ⟨p.val, by omega⟩ l))
    (hu : ∀ (p : Fin 3263) (l : Fin 128), u (ix3 0 p l) = mk (ix3 0 ⟨1 + p.val, by omega⟩ l))
    (r : Fin 3264) (l : Fin 128) (hr : 1 ≤ r.val) :
    v.read (Elt F) (v.writes (Elt F) f (⟨Rect.unit ![im, 0, 0] ![1, 3264, 128] inb,
        updateSlice old (k0_pay7 a u) ![0, 1, 0] hsl⟩ :: L)) (ix3 i r l)
      = lef x mk (ix3 i r l) := by
  rw [hit v f inb _ L i r l r hi (by omega)]
  have hin : ∀ b : Fin 3, (![0, 1, 0] : Fin 3 → Nat) b ≤ ((ix3 0 r l : S1x3264x128.Idx) b).val
      ∧ ((ix3 0 r l : S1x3264x128.Idx) b).val < (![0, 1, 0] : Fin 3 → Nat) b + S1x3263x128.size b := by
    intro b; fin_cases b
    · exact ⟨Nat.le_refl 0, Nat.one_pos⟩
    · exact ⟨hr, by show r.val < 1 + 3263; omega⟩
    · exact ⟨Nat.zero_le _, by show l.val < 0 + 128; omega⟩
  have e1 : updateSlice old (k0_pay7 a u) ![0, 1, 0] hsl (ix3 0 r l) = k0_pay7 a u (ix3 0 ⟨r.val - 1, by omega⟩ l) := by
    refine (dif_pos hin).trans (congrArg (k0_pay7 a u) (funext fun b => Fin.ext ?_))
    fin_cases b <;> rfl
  rw [e1, pay7_at, ha, hu]
  refine Eq.trans ?_ (dif_pos (c := 1 ≤ r.val) hr).symm
  have e2 : (⟨1 + (r.val - 1), by omega⟩ : Fin 3264) = r := Fin.ext (by show 1 + (r.val - 1) = r.val; omega)
  show FloatOps.mulf _ (mk (ix3 0 ⟨1 + (r.val - 1), _⟩ l)) = FloatOps.mulf _ (mk (ix3 0 r l))
  rw [e2]
  rfl

/-- The third buffer after image `im`'s rows, moved up by one, are blended into it. -/
theorem rig_read {im : Nat} (inb : ∀ a, (![im, 0, 0] : Fin 3 → Nat) a + (![1, 3264, 128] : Fin 3 → Nat) a ≤ S2x3264x128.size a)
    (old : FVec F S1x3264x128 .bf16) (hsl) (a : Vec F S3263x128 .bf16) (u : Vec F S1x3263x128 .bf16)
    (L : List (View.Piece (Elt F) S2x3264x128 .bf16)) (x : FVec F S2x3136x128 .f32) (mk : FVec F S2x3264x128 .bf16) (i : Fin 2)
    (hi : i.val = im)
    (ha : ∀ (p : Fin 3263) (l : Fin 128), a (ix2 p l) = cen x (ix3 i ⟨1 + p.val, by omega⟩ l))
    (hu : ∀ (p : Fin 3263) (l : Fin 128), u (ix3 0 p l) = mk (ix3 1 ⟨p.val, by omega⟩ l))
    (r : Fin 3264) (l : Fin 128) (hr : r.val < 3263) :
    v.read (Elt F) (v.writes (Elt F) f (⟨Rect.unit ![im, 0, 0] ![1, 3264, 128] inb,
        updateSlice old (k0_pay7 a u) ![0, 0, 0] hsl⟩ :: L)) (ix3 i r l)
      = rig x mk (ix3 i r l) := by
  rw [hit v f inb _ L i r l r hi (by omega)]
  have hin : ∀ b : Fin 3, (![0, 0, 0] : Fin 3 → Nat) b ≤ ((ix3 0 r l : S1x3264x128.Idx) b).val
      ∧ ((ix3 0 r l : S1x3264x128.Idx) b).val < (![0, 0, 0] : Fin 3 → Nat) b + S1x3263x128.size b := by
    intro b; fin_cases b
    · exact ⟨Nat.le_refl 0, Nat.one_pos⟩
    · exact ⟨Nat.zero_le _, by show r.val < 0 + 3263; omega⟩
    · exact ⟨Nat.zero_le _, by show l.val < 0 + 128; omega⟩
  have e1 : updateSlice old (k0_pay7 a u) ![0, 0, 0] hsl (ix3 0 r l) = k0_pay7 a u (ix3 0 ⟨r.val, hr⟩ l) := by
    refine (dif_pos hin).trans (congrArg (k0_pay7 a u) (funext fun b => Fin.ext ?_))
    fin_cases b <;> rfl
  rw [e1, pay7_at, ha, hu]
  refine Eq.trans ?_ (dif_pos (c := r.val < 3263) hr).symm
  have e2 : (⟨1 + r.val, by omega⟩ : Fin 3264) = ⟨r.val + 1, by omega⟩ := Fin.ext (Nat.add_comm 1 r.val)
  show FloatOps.mulf (cen x (ix3 i ⟨1 + r.val, _⟩ l)) _ = FloatOps.mulf (cen x (ix3 i ⟨r.val + 1, _⟩ l)) _
  rw [e2]
  rfl

end Reads

end Cert.KernelIdeal.Conv

end
-- ==== Proof.KernelIdeal.Body.lean ====
/-
  The convolution's body, run once at symbolic operands in each of its two cases: at the first grid point, where it
  first fills the margin rows of the first scratch buffer with zeros, and at a later one, where it finds them zero.
  Either way it leaves `Conv.out` of the four input blocks in the output block, and the margin rows zero.
-/
module

public import proofs.«01_k».proof.Proof.KernelIdeal.Taps
public import proofs.«01_k».proof.Proof.Gen.KernelIdeal.Frame
public import Idealize.ShloMosaic.Lib.Tactic

@[expose] public section

set_option maxRecDepth 16384

noncomputable section

namespace Cert.KernelIdeal.Conv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's test for the first grid point, as the program computes it. -/
abbrev first (i : grid0.Coords) : Prop :=
  Scalar.cmpi .ne (Scalar.extui (Scalar.cmpi .eq (BitVec.ofNat 32 (i 0).val) 0#32) : BitVec 32) 0#32 = 1#1

theorem pay9_congr {a1 a1' a2 a2' a3 a3' a4 a4' a5 a5' a6 a6' a7 a7' a8 a8' a9 a9' : Vec F S3136x128 .bf16}
    {w w' : Vec F S1152x256 .bf16} {b b' : Vec F S1x256 .f32} (h1 : a1 = a1') (h2 : a2 = a2') (h3 : a3 = a3') (h4 : a4 = a4')
    (h5 : a5 = a5') (h6 : a6 = a6') (h7 : a7 = a7') (h8 : a8 = a8') (h9 : a9 = a9') (hw : w = w') (hb : b = b') :
    k0_pay9 a1 a2 a3 a4 a5 a6 a7 a8 a9 w b = k0_pay9 a1' a2' a3' a4' a5' a6' a7' a8' a9' w' b' := by
  subst h1 h2 h3 h4 h5 h6 h7 h8 h9 hw hb; rfl

section

variable (c : Dev nD) (i : grid0.Coords)
    (M1 : Memref sig .tc .vmem S2x3136x128 .f32) (h1 : M1.IsWhole) (M2 : Memref sig .tc .vmem S1152x256 .bf16) (h2 : M2.IsWhole)
    (M3 : Memref sig .tc .vmem S2x3264x128 .bf16) (h3 : M3.IsWhole) (M4 : Memref sig .tc .vmem S1x256 .f32) (h4 : M4.IsWhole)
    (M5 : Memref sig .tc .vmem S2x3136x256 .f32) (h5 : M5.IsWhole) (M6 : Memref sig .tc .vmem S2x3264x128 .bf16) (h6 : M6.IsWhole)
    (M7 : Memref sig .tc .vmem S2x3264x128 .bf16) (h7 : M7.IsWhole) (M8 : Memref sig .tc .vmem S2x3264x128 .bf16) (h8 : M8.IsWhole)
    (x : FVec F S2x3136x128 .f32) (w : FVec F S1152x256 .bf16) (mk : FVec F S2x3264x128 .bf16) (b : FVec F S1x256 .f32)
    (q : FVec F S2x3264x128 .bf16)

/-- What the body is handed: the input blocks at `x`, `w`, `mk`, `b`, the output block at anything, the first scratch
    buffer at `q`, the other two at anything; and what follows from it when it returns. -/
abbrev Handed (Q : PUnit.{1} → sProp 𝕄) : sProp 𝕄 :=
  iprop(owns c M1 fullShare x ∗ owns c M2 fullShare w ∗ owns c M3 fullShare mk ∗ owns c M4 fullShare b
    ∗ (∃ y, owns c M5 fullShare y) ∗ owns c M6 fullShare q ∗ (∃ y, owns c M7 fullShare y) ∗ (∃ y, owns c M8 fullShare y)
    ∗ (iprop(owns c M1 fullShare x ∗ owns c M2 fullShare w ∗ owns c M3 fullShare mk ∗ owns c M4 fullShare b
        ∗ owns c M5 fullShare (out x w mk b) ∗ (∃ y, ⌜Margin y⌝ ∗ owns c M6 fullShare y)
        ∗ (∃ y, owns c M7 fullShare y) ∗ (∃ y, owns c M8 fullShare y)) -∗ Q ⟨⟩))

set_option maxHeartbeats 2000000 in
set_option sl_exec.squeezeSlice true in
/-- A later grid point. -/
theorem run_rest (E : Set ℕ) (Q : PUnit.{1} → sProp 𝕄) (hi : ¬ first i) (hq : Margin q) :
    Handed c M1 M2 M3 M4 M5 M6 M7 M8 x w mk b q Q
      ⊢ wp frame (wpE (defs₀ (F := F)) Variants.none c none) E
          (cc0_conv3x3_nhwc i M1 h1 M2 h2 M3 h3 M4 h4 M5 h5 M6 h6 M7 h7 M8 h8) Q := by
  unfold Handed owns
  iintro ⟨⟨%f1, %e1, H1⟩, ⟨%f2, %e2, H2⟩, ⟨%f3, %e3, H3⟩, ⟨%f4, %e4, H4⟩, ⟨%y5, %f5, -, H5⟩, ⟨%f6, %e6, H6⟩, ⟨%y7, %f7, -, H7⟩,
    ⟨%y8, %f8, -, H8⟩, HR⟩
  rw [cc0_conv3x3_nhwc_eq_skeleton]; unfold cc0_conv3x3_nhwc_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  sl_exec
  sl_step
  iapply HR
  isplitl [H1]; · iexists _; isplitr; · ipureintro; exact e1
                  iexact H1
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]
  · iexists _; isplitr
    swap; · iexact H5
    ipureintro
    subst e1 e2 e3 e4
    -- the first scratch buffer, image by image
    have C0 : ∀ g r l, (r.val < 64 ∨ 3200 ≤ r.val → M6.view.read (Elt F) g (ix3 0 r l) = zer)
        → M6.view.read (Elt F) (M6.view.writes (Elt F) g (run_rest.sl.H6_1 c M1 f1)) (ix3 0 r l)
          = cen (M1.view.read (Elt F) f1) (ix3 0 r l) := fun g r l hm =>
      cen_read M6.view g _ _ [] _ 0 rfl (fun p l => pay6_at _ _ 0 p l
        (rows_load M1.view f1 _ 0 p l (ix3 0 p l) rfl (Nat.zero_add _).symm rfl)) r l hm
    have C1 : ∀ g r l, (r.val < 64 ∨ 3200 ≤ r.val → M6.view.read (Elt F) g (ix3 1 r l) = zer)
        → M6.view.read (Elt F) (M6.view.writes (Elt F) g (run_rest.sl.H6_2 c M1 f1)) (ix3 1 r l)
          = cen (M1.view.read (Elt F) f1) (ix3 1 r l) := fun g r l hm =>
      cen_read M6.view g _ _ (run_rest.sl.H6_1 c M1 f1) _ 1 rfl (fun p l => pay11_at _ _ 1 p l
        (rows_load M1.view f1 _ 0 p l (ix3 1 p l) rfl (Nat.zero_add _).symm rfl)) r l fun h =>
          (miss M6.view g _ _ [] 1 r l (.inl Nat.one_ne_zero)).trans (hm h)
    have Z : ∀ i r l, r.val < 64 ∨ 3200 ≤ r.val → M6.view.read (Elt F) f6 (ix3 i r l) = zer := fun i r l h => by
      rw [e6]; exact hq i r l h
    -- the second and the third
    have L0 : ∀ g r l, 1 ≤ r.val → M7.view.read (Elt F) (M7.view.writes (Elt F) g (run_rest.sl.H7_1 c M1 M3 M6 M7 f1 f3 f6 f7)) (ix3 0 r l)
        = lef (M1.view.read (Elt F) f1) (M3.view.read (Elt F) f3) (ix3 0 r l) := fun g r l hr =>
      lef_read M7.view g _ _ _ _ _ _ _ _ 0 rfl
        (fun p l => (image_load M6.view _ 0 0 _ _ _ _ _ _ p l ⟨p.val, by omega⟩ (Nat.zero_add _).symm).trans (C0 _ _ _ (Z 0 _ _)))
        (fun p l => rows_load M3.view f3 _ 0 p l (ix3 0 ⟨1 + p.val, by omega⟩ l) rfl rfl rfl) r l hr
    have L1 : ∀ g r l, 1 ≤ r.val → M7.view.read (Elt F) (M7.view.writes (Elt F) g (run_rest.sl.H7_2 c M1 M3 M6 M7 f1 f3 f6 f7)) (ix3 1 r l)
        = lef (M1.view.read (Elt F) f1) (M3.view.read (Elt F) f3) (ix3 1 r l) := fun g r l hr =>
      lef_read M7.view g _ _ _ _ _ _ _ _ 1 rfl
        (fun p l => (image_load M6.view _ 1 0 _ _ _ _ _ _ p l ⟨p.val, by omega⟩ (Nat.zero_add _).symm).trans (C1 _ _ _ (Z 1 _ _)))
        (fun p l => rows_load M3.view f3 _ 0 p l (ix3 0 ⟨1 + p.val, by omega⟩ l) rfl rfl rfl) r l hr
    have R0 : ∀ g r l, r.val < 3263 → M8.view.read (Elt F) (M8.view.writes (Elt F) g (run_rest.sl.H8_1 c M1 M3 M6 M8 f1 f3 f6 f8)) (ix3 0 r l)
        = rig (M1.view.read (Elt F) f1) (M3.view.read (Elt F) f3) (ix3 0 r l) := fun g r l hr =>
      rig_read M8.view g _ _ _ _ _ _ _ _ 0 rfl
        (fun p l => (image_load M6.view _ 0 1 _ _ _ _ _ _ p l ⟨1 + p.val, by omega⟩ rfl).trans (C0 _ _ _ (Z 0 _ _)))
        (fun p l => rows_load M3.view f3 _ 0 p l (ix3 1 ⟨p.val, by omega⟩ l) rfl (Nat.zero_add _).symm rfl) r l hr
    have R1 : ∀ g r l, r.val < 3263 → M8.view.read (Elt F) (M8.view.writes (Elt F) g (run_rest.sl.H8_2 c M1 M3 M6 M8 f1 f3 f6 f8)) (ix3 1 r l)
        = rig (M1.view.read (Elt F) f1) (M3.view.read (Elt F) f3) (ix3 1 r l) := fun g r l hr =>
      rig_read M8.view g _ _ _ _ _ _ _ _ 1 rfl
        (fun p l => (image_load M6.view _ 1 1 _ _ _ _ _ _ p l ⟨1 + p.val, by omega⟩ rfl).trans (C1 _ _ _ (Z 1 _ _)))
        (fun p l => rows_load M3.view f3 _ 0 p l (ix3 1 ⟨p.val, by omega⟩ l) rfl (Nat.zero_add _).symm rfl) r l hr
    -- the nine taps of each image
    refine out_read M5.view f5 _ _ _ _ _ _ _ _
      (pay9_congr ?_ ?_ ?_ ?_ ?_ ?_ ?_ ?_ ?_ (whole_load M2.view f2 _) (whole_load M4.view f4 _))
      (pay9_congr ?_ ?_ ?_ ?_ ?_ ?_ ?_ ?_ ?_ (whole_load M2.view f2 _) (whole_load M4.view f4 _))
    · funext p; idx_vars p; exact (image_load M7.view _ 0 8 _ _ _ _ _ _ p0 p1 ⟨8 + p0.val, by omega⟩ rfl).trans (L0 _ _ _ (by show 1 ≤ 8 + p0.val; omega))
    · funext p; idx_vars p; exact (image_load M6.view _ 0 8 _ _ _ _ _ _ p0 p1 ⟨8 + p0.val, by omega⟩ rfl).trans (C0 _ _ _ (Z 0 _ _))
    · funext p; idx_vars p; exact (image_load M8.view _ 0 8 _ _ _ _ _ _ p0 p1 ⟨8 + p0.val, by omega⟩ rfl).trans (R0 _ _ _ (by show 8 + p0.val < 3263; omega))
    · funext p; idx_vars p; exact (image_load M7.view _ 0 64 _ _ _ _ _ _ p0 p1 ⟨64 + p0.val, by omega⟩ rfl).trans (L0 _ _ _ (by show 1 ≤ 64 + p0.val; omega))
    · funext p; idx_vars p; exact (image_load M6.view _ 0 64 _ _ _ _ _ _ p0 p1 ⟨64 + p0.val, by omega⟩ rfl).trans (C0 _ _ _ (fun h => by change 64 + p0.val < 64 ∨ 3200 ≤ 64 + p0.val at h; omega))
    · funext p; idx_vars p; exact (image_load M8.view _ 0 64 _ _ _ _ _ _ p0 p1 ⟨64 + p0.val, by omega⟩ rfl).trans (R0 _ _ _ (by show 64 + p0.val < 3263; omega))
    · funext p; idx_vars p; exact (image_load M7.view _ 0 120 _ _ _ _ _ _ p0 p1 ⟨120 + p0.val, by omega⟩ rfl).trans (L0 _ _ _ (by show 1 ≤ 120 + p0.val; omega))
    · funext p; idx_vars p; exact (image_load M6.view _ 0 120 _ _ _ _ _ _ p0 p1 ⟨120 + p0.val, by omega⟩ rfl).trans (C0 _ _ _ (Z 0 _ _))
    · funext p; idx_vars p; exact (image_load M8.view _ 0 120 _ _ _ _ _ _ p0 p1 ⟨120 + p0.val, by omega⟩ rfl).trans (R0 _ _ _ (by show 120 + p0.val < 3263; omega))
    · funext p; idx_vars p; exact (image_load M7.view _ 1 8 _ _ _ _ _ _ p0 p1 ⟨8 + p0.val, by omega⟩ rfl).trans (L1 _ _ _ (by show 1 ≤ 8 + p0.val; omega))
    · funext p; idx_vars p; exact (image_load M6.view _ 1 8 _ _ _ _ _ _ p0 p1 ⟨8 + p0.val, by omega⟩ rfl).trans (C1 _ _ _ (Z 1 _ _))
    · funext p; idx_vars p; exact (image_load M8.view _ 1 8 _ _ _ _ _ _ p0 p1 ⟨8 + p0.val, by omega⟩ rfl).trans (R1 _ _ _ (by show 8 + p0.val < 3263; omega))
    · funext p; idx_vars p; exact (image_load M7.view _ 1 64 _ _ _ _ _ _ p0 p1 ⟨64 + p0.val, by omega⟩ rfl).trans (L1 _ _ _ (by show 1 ≤ 64 + p0.val; omega))
    · funext p; idx_vars p; exact (image_load M6.view _ 1 64 _ _ _ _ _ _ p0 p1 ⟨64 + p0.val, by omega⟩ rfl).trans (C1 _ _ _ (fun h => by change 64 + p0.val < 64 ∨ 3200 ≤ 64 + p0.val at h; omega))
    · funext p; idx_vars p; exact (image_load M8.view _ 1 64 _ _ _ _ _ _ p0 p1 ⟨64 + p0.val, by omega⟩ rfl).trans (R1 _ _ _ (by show 64 + p0.val < 3263; omega))
    · funext p; idx_vars p; exact (image_load M7.view _ 1 120 _ _ _ _ _ _ p0 p1 ⟨120 + p0.val, by omega⟩ rfl).trans (L1 _ _ _ (by show 1 ≤ 120 + p0.val; omega))
    · funext p; idx_vars p; exact (image_load M6.view _ 1 120 _ _ _ _ _ _ p0 p1 ⟨120 + p0.val, by omega⟩ rfl).trans (C1 _ _ _ (Z 1 _ _))
    · funext p; idx_vars p; exact (image_load M8.view _ 1 120 _ _ _ _ _ _ p0 p1 ⟨120 + p0.val, by omega⟩ rfl).trans (R1 _ _ _ (by show 120 + p0.val < 3263; omega))
  isplitl [H6]
  · iexists _; isplitr
    swap
    · iexists _; isplitr
      swap; · iexact H6
      ipureintro; rfl
    ipureintro
    intro i r l h
    rw [show M6.view.read (Elt F) (M6.view.writes (Elt F) f6 (run_rest.sl.H6_2 c M1 f1)) (ix3 i r l)
        = M6.view.read (Elt F) (M6.view.writes (Elt F) f6 (run_rest.sl.H6_1 c M1 f1)) (ix3 i r l) from
      miss M6.view f6 _ _ (run_rest.sl.H6_1 c M1 f1) i r l (by omega)]
    refine (miss M6.view f6 _ _ [] i r l (by omega)).trans ?_
    show M6.view.read (Elt F) f6 (ix3 i r l) = zer
    rw [e6]; exact hq i r l h
  isplitl [H7]
  · iexists _; iexists _; isplitr
    swap; · iexact H7
    ipureintro; rfl
  iexists _; iexists _; isplitr
  swap; · iexact H8
  ipureintro; rfl

set_option maxHeartbeats 2000000 in
set_option sl_exec.squeezeSlice true in
/-- The first grid point. -/
theorem run_first (E : Set ℕ) (Q : PUnit.{1} → sProp 𝕄) (hi : first i) :
    Handed c M1 M2 M3 M4 M5 M6 M7 M8 x w mk b q Q
      ⊢ wp frame (wpE (defs₀ (F := F)) Variants.none c none) E
          (cc0_conv3x3_nhwc i M1 h1 M2 h2 M3 h3 M4 h4 M5 h5 M6 h6 M7 h7 M8 h8) Q := by
  unfold Handed owns
  iintro ⟨⟨%f1, %e1, H1⟩, ⟨%f2, %e2, H2⟩, ⟨%f3, %e3, H3⟩, ⟨%f4, %e4, H4⟩, ⟨%y5, %f5, -, H5⟩, ⟨%f6, %e6, H6⟩, ⟨%y7, %f7, -, H7⟩,
    ⟨%y8, %f8, -, H8⟩, HR⟩
  rw [cc0_conv3x3_nhwc_eq_skeleton]; unfold cc0_conv3x3_nhwc_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  sl_exec
  sl_step
  iapply HR
  isplitl [H1]; · iexists _; isplitr; · ipureintro; exact e1
                  iexact H1
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]
  · iexists _; isplitr
    swap; · iexact H5
    ipureintro
    subst e1 e2 e3 e4
    -- the first scratch buffer, image by image
    have C0 : ∀ g r l, M6.view.read (Elt F) (M6.view.writes (Elt F) g (run_first.sl.H6_5 c M1 f1)) (ix3 0 r l)
          = cen (M1.view.read (Elt F) f1) (ix3 0 r l) := fun g r l =>
      cen_read M6.view g _ _ _ _ 0 rfl (fun p l => pay6_at _ _ 0 p l
        (rows_load M1.view f1 _ 0 p l (ix3 0 p l) rfl (Nat.zero_add _).symm rfl)) r l fun h => zeros_read M6.view g _ _ _ _ 0 r l h
    have C1 : ∀ g r l, M6.view.read (Elt F) (M6.view.writes (Elt F) g (run_first.sl.H6_6 c M1 f1)) (ix3 1 r l)
          = cen (M1.view.read (Elt F) f1) (ix3 1 r l) := fun g r l =>
      cen_read M6.view g _ _ (run_first.sl.H6_5 c M1 f1) _ 1 rfl (fun p l => pay11_at _ _ 1 p l
        (rows_load M1.view f1 _ 0 p l (ix3 1 p l) rfl (Nat.zero_add _).symm rfl)) r l fun h =>
          (miss M6.view g _ _ _ 1 r l (.inl Nat.one_ne_zero)).trans (zeros_read M6.view g _ _ _ _ 1 r l h)
    -- the second and the third
    have L0 : ∀ g r l, 1 ≤ r.val → M7.view.read (Elt F) (M7.view.writes (Elt F) g (run_first.sl.H7_1 c M1 M3 M6 M7 f1 f3 f7)) (ix3 0 r l)
        = lef (M1.view.read (Elt F) f1) (M3.view.read (Elt F) f3) (ix3 0 r l) := fun g r l hr =>
      lef_read M7.view g _ _ _ _ _ _ _ _ 0 rfl
        (fun p l => (image_load M6.view _ 0 0 _ _ _ _ _ _ p l ⟨p.val, by omega⟩ (Nat.zero_add _).symm).trans (C0 _ _ _))
        (fun p l => rows_load M3.view f3 _ 0 p l (ix3 0 ⟨1 + p.val, by omega⟩ l) rfl rfl rfl) r l hr
    have L1 : ∀ g r l, 1 ≤ r.val → M7.view.read (Elt F) (M7.view.writes (Elt F) g (run_first.sl.H7_2 c M1 M3 M6 M7 f1 f3 f7)) (ix3 1 r l)
        = lef (M1.view.read (Elt F) f1) (M3.view.read (Elt F) f3) (ix3 1 r l) := fun g r l hr =>
      lef_read M7.view g _ _ _ _ _ _ _ _ 1 rfl
        (fun p l => (image_load M6.view _ 1 0 _ _ _ _ _ _ p l ⟨p.val, by omega⟩ (Nat.zero_add _).symm).trans (C1 _ _ _))
        (fun p l => rows_load M3.view f3 _ 0 p l (ix3 0 ⟨1 + p.val, by omega⟩ l) rfl rfl rfl) r l hr
    have R0 : ∀ g r l, r.val < 3263 → M8.view.read (Elt F) (M8.view.writes (Elt F) g (run_first.sl.H8_1 c M1 M3 M6 M8 f1 f3 f8)) (ix3 0 r l)
        = rig (M1.view.read (Elt F) f1) (M3.view.read (Elt F) f3) (ix3 0 r l) := fun g r l hr =>
      rig_read M8.view g _ _ _ _ _ _ _ _ 0 rfl
        (fun p l => (image_load M6.view _ 0 1 _ _ _ _ _ _ p l ⟨1 + p.val, by omega⟩ rfl).trans (C0 _ _ _))
        (fun p l => rows_load M3.view f3 _ 0 p l (ix3 1 ⟨p.val, by omega⟩ l) rfl (Nat.zero_add _).symm rfl) r l hr
    have R1 : ∀ g r l, r.val < 3263 → M8.view.read (Elt F) (M8.view.writes (Elt F) g (run_first.sl.H8_2 c M1 M3 M6 M8 f1 f3 f8)) (ix3 1 r l)
        = rig (M1.view.read (Elt F) f1) (M3.view.read (Elt F) f3) (ix3 1 r l) := fun g r l hr =>
      rig_read M8.view g _ _ _ _ _ _ _ _ 1 rfl
        (fun p l => (image_load M6.view _ 1 1 _ _ _ _ _ _ p l ⟨1 + p.val, by omega⟩ rfl).trans (C1 _ _ _))
        (fun p l => rows_load M3.view f3 _ 0 p l (ix3 1 ⟨p.val, by omega⟩ l) rfl (Nat.zero_add _).symm rfl) r l hr
    -- the nine taps of each image
    refine out_read M5.view f5 _ _ _ _ _ _ _ _
      (pay9_congr ?_ ?_ ?_ ?_ ?_ ?_ ?_ ?_ ?_ (whole_load M2.view f2 _) (whole_load M4.view f4 _))
      (pay9_congr ?_ ?_ ?_ ?_ ?_ ?_ ?_ ?_ ?_ (whole_load M2.view f2 _) (whole_load M4.view f4 _))
    · funext p; idx_vars p; exact (image_load M7.view _ 0 8 _ _ _ _ _ _ p0 p1 ⟨8 + p0.val, by omega⟩ rfl).trans (L0 _ _ _ (by show 1 ≤ 8 + p0.val; omega))
    · funext p; idx_vars p; exact (image_load M6.view _ 0 8 _ _ _ _ _ _ p0 p1 ⟨8 + p0.val, by omega⟩ rfl).trans (C0 _ _ _)
    · funext p; idx_vars p; exact (image_load M8.view _ 0 8 _ _ _ _ _ _ p0 p1 ⟨8 + p0.val, by omega⟩ rfl).trans (R0 _ _ _ (by show 8 + p0.val < 3263; omega))
    · funext p; idx_vars p; exact (image_load M7.view _ 0 64 _ _ _ _ _ _ p0 p1 ⟨64 + p0.val, by omega⟩ rfl).trans (L0 _ _ _ (by show 1 ≤ 64 + p0.val; omega))
    · funext p; idx_vars p; exact (image_load M6.view _ 0 64 _ _ _ _ _ _ p0 p1 ⟨64 + p0.val, by omega⟩ rfl).trans (C0 _ _ _)
    · funext p; idx_vars p; exact (image_load M8.view _ 0 64 _ _ _ _ _ _ p0 p1 ⟨64 + p0.val, by omega⟩ rfl).trans (R0 _ _ _ (by show 64 + p0.val < 3263; omega))
    · funext p; idx_vars p; exact (image_load M7.view _ 0 120 _ _ _ _ _ _ p0 p1 ⟨120 + p0.val, by omega⟩ rfl).trans (L0 _ _ _ (by show 1 ≤ 120 + p0.val; omega))
    · funext p; idx_vars p; exact (image_load M6.view _ 0 120 _ _ _ _ _ _ p0 p1 ⟨120 + p0.val, by omega⟩ rfl).trans (C0 _ _ _)
    · funext p; idx_vars p; exact (image_load M8.view _ 0 120 _ _ _ _ _ _ p0 p1 ⟨120 + p0.val, by omega⟩ rfl).trans (R0 _ _ _ (by show 120 + p0.val < 3263; omega))
    · funext p; idx_vars p; exact (image_load M7.view _ 1 8 _ _ _ _ _ _ p0 p1 ⟨8 + p0.val, by omega⟩ rfl).trans (L1 _ _ _ (by show 1 ≤ 8 + p0.val; omega))
    · funext p; idx_vars p; exact (image_load M6.view _ 1 8 _ _ _ _ _ _ p0 p1 ⟨8 + p0.val, by omega⟩ rfl).trans (C1 _ _ _)
    · funext p; idx_vars p; exact (image_load M8.view _ 1 8 _ _ _ _ _ _ p0 p1 ⟨8 + p0.val, by omega⟩ rfl).trans (R1 _ _ _ (by show 8 + p0.val < 3263; omega))
    · funext p; idx_vars p; exact (image_load M7.view _ 1 64 _ _ _ _ _ _ p0 p1 ⟨64 + p0.val, by omega⟩ rfl).trans (L1 _ _ _ (by show 1 ≤ 64 + p0.val; omega))
    · funext p; idx_vars p; exact (image_load M6.view _ 1 64 _ _ _ _ _ _ p0 p1 ⟨64 + p0.val, by omega⟩ rfl).trans (C1 _ _ _)
    · funext p; idx_vars p; exact (image_load M8.view _ 1 64 _ _ _ _ _ _ p0 p1 ⟨64 + p0.val, by omega⟩ rfl).trans (R1 _ _ _ (by show 64 + p0.val < 3263; omega))
    · funext p; idx_vars p; exact (image_load M7.view _ 1 120 _ _ _ _ _ _ p0 p1 ⟨120 + p0.val, by omega⟩ rfl).trans (L1 _ _ _ (by show 1 ≤ 120 + p0.val; omega))
    · funext p; idx_vars p; exact (image_load M6.view _ 1 120 _ _ _ _ _ _ p0 p1 ⟨120 + p0.val, by omega⟩ rfl).trans (C1 _ _ _)
    · funext p; idx_vars p; exact (image_load M8.view _ 1 120 _ _ _ _ _ _ p0 p1 ⟨120 + p0.val, by omega⟩ rfl).trans (R1 _ _ _ (by show 120 + p0.val < 3263; omega))
  isplitl [H6]
  · iexists _; isplitr
    swap
    · iexists _; isplitr
      swap; · iexact H6
      ipureintro; rfl
    ipureintro
    intro i r l h
    rw [show M6.view.read (Elt F) (M6.view.writes (Elt F) f6 (run_first.sl.H6_6 c M1 f1)) (ix3 i r l)
        = M6.view.read (Elt F) (M6.view.writes (Elt F) f6 (run_first.sl.H6_5 c M1 f1)) (ix3 i r l) from
      miss M6.view f6 _ _ (run_first.sl.H6_5 c M1 f1) i r l (by omega)]
    exact (miss M6.view f6 _ _ _ i r l (by omega)).trans (zeros_read M6.view f6 _ _ _ _ i r l h)
  isplitl [H7]
  · iexists _; iexists _; isplitr
    swap; · iexact H7
    ipureintro; rfl
  iexists _; iexists _; isplitr
  swap; · iexact H8
  ipureintro; rfl

end

end Cert.KernelIdeal.Conv

end
-- ==== Proof.KernelIdeal.Run.lean ====
/-
  The convolution's launch: what each window's staging buffer holds after each grid point, what holds between two
  points (the margin rows of the first scratch buffer are zero once the first point is past), the body's obligation at
  every point, and the run of the whole program from any memory with zero counters.
-/
module

public import proofs.«01_k».proof.Proof.KernelIdeal.Body

@[expose] public section

set_option maxRecDepth 16384

noncomputable section

namespace Cert.KernelIdeal.Conv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The test for the first grid point holds at point 0 and at no other. -/
theorem first_iff : ∀ t : Fin grid0.N, first (grid0.coords t) ↔ t.val = 0 := by decide +kernel

/-- What holds between two grid points, `t` of them done: the three scratch buffers held, the margin rows of the first
    zero unless no point is done yet; and the core's generator register at something. -/
def between (c : Dev nD) (t : Nat) : sProp 𝕄 :=
  iprop((∃ y : FVec F S2x3264x128 .bf16, ⌜t ≠ 0 → Margin y⌝ ∗ owns (c : Thread nD τ) (Memref.whole cc0_scratch0) fullShare y)
    ∗ (∃ y : FVec F S2x3264x128 .bf16, owns (c : Thread nD τ) (Memref.whole cc0_scratch1) fullShare y)
    ∗ (∃ y : FVec F S2x3264x128 .bf16, owns (c : Thread nD τ) (Memref.whole cc0_scratch2) fullShare y)
    ∗ ∃ r, prngReg c r)

/-- The output block after grid point `t`: the convolution of the two images fetched there. -/
def oblk (c : Dev nD) (t : Fin cfg0.N) : FVec F S2x3136x256 .f32 :=
  out (iblk m c 0 t) (iblk m c 1 t) (iblk m c 2 t) (iblk m c 3 t)

/-- The proof data on core `c`: the arrays as the region finds them; after the body the input blocks as fetched and the
    output block at `oblk`; `between` as the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ t := between c t.val
  q _ := fullShare
  owed _ := 0

/-- What the first window's buffer holds before the body at a point: its block. -/
theorem before0 (c : Dev nD) (t : Fin cfg0.N) (d) : (dats m 0 c).before 0 t d = iblk m c 0 t :=
  before0_0_of m (dats m 0 c) rfl (fun _ => rfl) t d
/-- The same of the second window. -/
theorem before1 (c : Dev nD) (t : Fin cfg0.N) (d) : (dats m 0 c).before 1 t d = iblk m c 1 t :=
  before0_1_of m (dats m 0 c) rfl (fun _ => rfl) t d
/-- The same of the third window. -/
theorem before2 (c : Dev nD) (t : Fin cfg0.N) (d) : (dats m 0 c).before 2 t d = iblk m c 2 t :=
  before0_2_of m (dats m 0 c) rfl (fun _ => rfl) t d
/-- The same of the fourth window. -/
theorem before3 (c : Dev nD) (t : Fin cfg0.N) (d) : (dats m 0 c).before 3 t d = iblk m c 3 t :=
  before0_3_of m (dats m 0 c) rfl (fun _ => rfl) t d

set_option maxHeartbeats 2000000 in
/-- The body at point `t`, from the scratch buffers as they stand, leaves the output block at `oblk` and the margin
    rows of the first scratch buffer zero. -/
theorem body_at (c : Dev nD) (t : Fin cfg0.N) (q : FVec F S2x3264x128 .bf16) (hq : t.val ≠ 0 → Margin q) (Q : PUnit.{1} → sProp 𝕄) :
    Handed c (st0_0 t) (st0_1 t) (st0_2 t) (st0_3 t) (st0_4 t) (Memref.whole cc0_scratch0) (Memref.whole cc0_scratch1)
        (Memref.whole cc0_scratch2) (iblk m c 0 t) (iblk m c 1 t) (iblk m c 2 t) (iblk m c 3 t) q Q
      ⊢ wp frame (wpE (defs₀ (F := F)) Variants.none c none) Set.univ (bodyAt0 t) Q := by
  by_cases ht : t.val = 0
  · exact run_first c _ _ _ _ _ _ _ _ _ _ _ _ _ _ _ _ _ _ _ _ _ _ _ _ ((first_iff t).mpr ht)
  · exact run_rest c _ _ _ _ _ _ _ _ _ _ _ _ _ _ _ _ _ _ _ _ _ _ _ _ (fun h => ht ((first_iff t).mp h)) (hq ht)

/-- The five windows conjoined one by one. -/
theorem windows (Φ : Fin cfg0.W → sProp 𝕄) : bigSep Finset.univ Φ = iprop(Φ 0 ∗ Φ 1 ∗ Φ 2 ∗ Φ 3 ∗ Φ 4) := bigSep_W0 Φ

set_option maxHeartbeats 2000000 in
/-- The body's obligation at every grid point. -/
theorem body_obligation (c : Dev nD) : BodyObligation (dats m 0 c) (defs₀ (F := F)) Variants.none () Set.univ := fun t => by
  rw [windows, windows]
  rw [show (dats m 0 c).Φ t.castSucc = between c t.val from rfl, show (dats m 0 c).Φ t.succ = between c (t.val + 1) from rfl,
    show (dats m 0 c).owesAt () t.succ = (dats m 0 c).owesAt () t.castSucc from rfl]
  unfold between
  iintro ⟨⟨⟨%q, %hq, S0⟩, S1, S2, Hg⟩, Howes, ⟨%d0, H0⟩, ⟨%d1, H1⟩, ⟨%d2, H2⟩, ⟨%d3, H3⟩, ⟨%d4, H4⟩⟩
  simp only [before0, before1, before2, before3]
  iapply (body_at m c t q hq _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  iintro ⟨H0, H1, H2, H3, H4, ⟨%y, %hy, S0⟩, S1, S2⟩
  isplitl [S0 S1 S2 Hg]
  · isplitl [S0]
    · iexists y; isplitr; · ipureintro; exact fun _ => hy
      iexact S0
    isplitl [S1]; · iexact S1
    isplitl [S2]; · iexact S2
    iexact Hg
  isplitl [Howes]; · iexact Howes
  isplitl [H0]; · iexact H0
  isplitl [H1]; · iexact H1
  isplitl [H2]; · iexact H2
  isplitl [H3]; · iexact H3
  iexact H4

/-- Every window is held in full. -/
theorem share_eq (c : Dev nD) (w : Fin cfg0.W) : (dats m 0 c).share w = fullShare := by
  unfold Dat.share; split <;> rfl

/-- The scratch buffers at anything are what holds before the first point. -/
theorem enter (c : Dev nD) : Pipeline.ΦA (cfgs 0).spec c ⊢ (dats m 0 c).Φ 0 := by
  rw [show (dats m 0 c).Φ 0 = between c 0 from rfl]
  unfold between Pipeline.ΦA
  rw [show (cfgs 0).spec = spec0 from rfl, scopedRest0_eq]
  simp only [owns_whole_eq]
  iintro ⟨⟨⟨%f0, H0⟩, ⟨%f1, H1⟩, ⟨%f2, H2⟩⟩, Hg⟩
  isplitl [H0]
  · iexists f0; isplitr; · ipureintro; exact fun h => absurd rfl h
    iexists f0; isplitr; · ipureintro; rfl
    iexact H0
  isplitl [H1]; · iexists f1; iexists f1; isplitr; · ipureintro; rfl
                  iexact H1
  isplitl [H2]; · iexists f2; iexists f2; isplitr; · ipureintro; rfl
                  iexact H2
  iexact Hg

/-- What holds after the last point gives the scratch buffers back. -/
theorem leave (c : Dev nD) : (dats m 0 c).Φ (Fin.last (cfgs 0).N) ⊢ Pipeline.ΦA (cfgs 0).spec c := by
  rw [show (dats m 0 c).Φ (Fin.last (cfgs 0).N) = between c 16 from rfl]
  unfold between Pipeline.ΦA
  rw [show (cfgs 0).spec = spec0 from rfl, scopedRest0_eq]
  simp only [owns_whole_eq]
  iintro ⟨⟨%y0, -, ⟨%f0, -, H0⟩⟩, ⟨%y1, ⟨%f1, -, H1⟩⟩, ⟨%y2, ⟨%f2, -, H2⟩⟩, Hg⟩
  isplitr [Hg]
  · isplitl [H0]; · iexists f0; iexact H0
    isplitl [H1]; · iexists f1; iexact H1
    iexists f2; iexact H2
  iexact Hg

set_option backward.isDefEq.respectTransparency.types false in
/-- From any memory with zero counters the program runs to the end, every array at what the proof data say it holds
    after the last write-back, every other unscoped buffer at what the lines around the region leave, every counter
    zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (share_eq m) (fun _ _ => rfl) (V0 m) [hostOps1] sfx_sub sfx_fresh sfx_keeps
    (hmain m Variants.none) (fun _ _ => rfl) (enter m) (leave m)
    (Q' := fun r => Pipeline.FramePost cfgs (dats m) 0 (Pipeline.afterTail₀ cfgs (dats m) 0 (V0 m) [hostOps1]) r ∧ r.2.sem = fun _ => 0)
    (hQ' := fun _ h => h)

/-- The program runs, leaves its arguments as they were and every counter at zero. -/
theorem run_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩, h.2⟩)
    (run_main m ρ)

end Cert.KernelIdeal.Conv

end
-- ==== Proof.Spec.lean ====
/-
  The convolution as one formula over the three argument arrays, at extended reals.
-/
module

public import Idealize.ShloMosaic.Lib.Pointwise

@[expose] public section

set_option maxRecDepth 16384

noncomputable section

namespace Cert.Conv

open Idealize.ShloMosaic

/-- Pixel `(y, x)` of channel `k` of image `n`, with a border one pixel wide added around the image: zero on the border. -/
def px (X : FVec Ideal ⟨4, ![32, 128, 56, 56]⟩ .f32) (n : Fin 32) (k : Fin 128) (y x : ℕ) : EReal :=
  if h : (1 ≤ y ∧ y - 1 < 56) ∧ 1 ≤ x ∧ x - 1 < 56 then X (ix4 n k ⟨y - 1, h.1.2⟩ ⟨x - 1, h.2.2⟩) else 0

/-- What tap `(a, b)` of the window contributes to output channel `o` at pixel `(h, w)` of image `n`. -/
def tapSum (X : FVec Ideal ⟨4, ![32, 128, 56, 56]⟩ .f32) (W : FVec Ideal ⟨4, ![256, 128, 3, 3]⟩ .f32) (a b : Fin 3)
    (n : Fin 32) (o : Fin 256) (h w : Fin 56) : EReal :=
  ∑ k : Fin 128, px X n k (a.val + h.val) (b.val + w.val) * W (ix4 o k a b)

/-- The convolution at one output element: the nine taps and the bias. -/
def convAt (X : FVec Ideal ⟨4, ![32, 128, 56, 56]⟩ .f32) (W : FVec Ideal ⟨4, ![256, 128, 3, 3]⟩ .f32)
    (B : FVec Ideal ⟨1, ![256]⟩ .f32) (n : Fin 32) (o : Fin 256) (h w : Fin 56) : EReal :=
  tapSum X W 0 0 n o h w + tapSum X W 0 1 n o h w + tapSum X W 0 2 n o h w
    + tapSum X W 1 0 n o h w + tapSum X W 1 1 n o h w + tapSum X W 1 2 n o h w
    + tapSum X W 2 0 n o h w + tapSum X W 2 1 n o h w + tapSum X W 2 2 n o h w + B (ix1 o)

/-- The convolution. -/
def conv (X : FVec Ideal ⟨4, ![32, 128, 56, 56]⟩ .f32) (W : FVec Ideal ⟨4, ![256, 128, 3, 3]⟩ .f32)
    (B : FVec Ideal ⟨1, ![256]⟩ .f32) : FVec Ideal ⟨4, ![32, 256, 56, 56]⟩ .f32 :=
  fun j => convAt X W B (j 0) (j 1) (j 2) (j 3)

end Cert.Conv

end
-- ==== Proof.KernelIdeal.Pure.lean ====
/-
  The convolution's body at extended reals: an element of the block it leaves is the convolution's formula, when the
  image block it is handed holds two images of the array and the mask block the two column masks.
-/
module

public import proofs.«01_k».proof.Proof.KernelIdeal.Taps
public import proofs.«01_k».proof.Proof.Spec

@[expose] public section

set_option maxRecDepth 16384

noncomputable section

namespace Cert.KernelIdeal.Conv

open Cert.KernelIdeal Cert.KernelIdeal.Gen Cert.Conv
open Idealize.ShloMosaic Idealize.ShloMosaic.TcCoe

/-- One tap's product with its 128 rows of the weights. -/
def part (a : FVec Ideal S3136x128 .bf16) (w : FVec Ideal S1152x256 .bf16) (t : Fin 9) (p : Fin 3136) (o : Fin 256) : EReal :=
  ∑ k : Fin 128, a (ix2 p k) * w (ix2 ⟨t.val * 128 + k.val, by omega⟩ o)

set_option maxHeartbeats 2000000 in
/-- An output element of one image: the nine taps' products and the bias. -/
theorem pay9_at (a1 a2 a3 a4 a5 a6 a7 a8 a9 : FVec Ideal S3136x128 .bf16) (w : FVec Ideal S1152x256 .bf16) (b : FVec Ideal S1x256 .f32)
    (p : Fin 3136) (o : Fin 256) : k0_pay9 (F := Ideal) a1 a2 a3 a4 a5 a6 a7 a8 a9 w b (ix3 0 p o)
      = part a1 w 0 p o + part a2 w 1 p o + part a3 w 2 p o + part a4 w 3 p o + part a5 w 4 p o + part a6 w 5 p o
        + part a7 w 6 p o + part a8 w 7 p o + part a9 w 8 p o + b (ix2 0 o) := by
  pointwise [k0_pay9]
  refine Ideal.add_congr ?_ rfl
  rw [Fin.sum_univ_tiles 9 128 rfl, Fin.sum_univ_castSucc, Fin.sum_univ_eight]
  refine Ideal.add_congr (Ideal.add_congr (Ideal.add_congr (Ideal.add_congr (Ideal.add_congr (Ideal.add_congr (Ideal.add_congr
    (Ideal.add_congr ?_ ?_) ?_) ?_) ?_) ?_) ?_) ?_) ?_
  all_goals
    refine Finset.sum_congr rfl fun k _ => Ideal.mul_congr ?_ rfl
    have hk := k.isLt
    dsimp only [Fin.val_castSucc, Fin.val_last, Fin.isValue]
    repeat refine (dif_neg (by omega)).trans ?_
    first
    | refine (dif_pos (by omega)).trans ?_
      exact congrArg _ (congrArg (ix2 p) (Fin.ext (by dsimp only; omega)))
    | exact congrArg _ (congrArg (ix2 p) (Fin.ext (by dsimp only; omega)))

/-! ## The taps -/

section

variable (X : FVec Ideal S32x128x56x56 .f32) (n : Fin 2 → Fin 32) (x : FVec Ideal S2x3136x128 .f32) (mk : FVec Ideal S2x3264x128 .bf16)

/-- The image block holds images `n 0` and `n 1` of `X`, pixels as rows and channels as columns. -/
def Images : Prop :=
  ∀ (im : Fin 2) (p : Fin 3136) (k : Fin 128),
    x (ix3 im p k) = X (ix4 (n im) k ⟨p.val / 56, by omega⟩ ⟨p.val % 56, by omega⟩)

/-- The first mask is zero on the rows of the first image column and one elsewhere, the second zero on those of the
    last column and one elsewhere, row 8 being the first row of a column-0 pixel. -/
def Masks : Prop :=
  ∀ (r : Fin 3264) (l : Fin 128), 8 ≤ r.val →
    mk (ix3 0 r l) = (if (r.val - 8) % 56 = 0 then 0 else 1 : EReal) ∧ mk (ix3 1 r l) = (if (r.val - 8) % 56 = 55 then 0 else 1 : EReal)

variable {X n x mk}

/-- The centre copy at the row of pixel `(y, z)` of the bordered image, `z` off the border's columns. -/
theorem cen_px (hx : Images X n x) (im : Fin 2) (r : Fin 3264) (k : Fin 128) (y z : ℕ) (hz : 1 ≤ z) (hz' : z ≤ 56)
    (hr : r.val = 7 + 56 * y + z) : cen x (ix3 im r k) = px X (n im) k y z := by
  unfold cen px
  by_cases h : 64 ≤ r.val ∧ r.val < 3200
  · refine (dif_pos h).trans ((hx im _ k).trans ?_)
    symm
    refine (dif_pos ⟨⟨by omega, by omega⟩, hz, by omega⟩).trans ?_
    exact congrArg X ((ix4_inj ..).2 ⟨rfl, rfl, Fin.ext (by show y - 1 = (r.val - 64) / 56; omega),
      Fin.ext (by show z - 1 = (r.val - 64) % 56; omega)⟩)
  · refine (dif_neg h).trans ?_
    refine Eq.trans ?_ (dif_neg (by omega)).symm
    show Ideal.ofBits .bf16 0x0000#16 = 0
    pointwise

/-- A tap of the centre copy. -/
theorem tap_cen (hx : Images X n x) (im : Fin 2) (a : ℕ) (ha : a < 3) (ho : 8 + 56 * a ≤ 128) (p : Fin 3136) (k : Fin 128) :
    tap (cen x) im (8 + 56 * a) ho (ix2 p k) = px X (n im) k (a + p.val / 56) (1 + p.val % 56) :=
  cen_px hx im _ k _ _ (by omega) (by omega) (by show 8 + 56 * a + p.val = _; omega)

/-- A tap of the copy moved down. -/
theorem tap_lef (hx : Images X n x) (hm : Masks mk) (im : Fin 2) (a : ℕ) (ha : a < 3) (ho : 8 + 56 * a ≤ 128) (p : Fin 3136) (k : Fin 128) :
    tap (lef x mk) im (8 + 56 * a) ho (ix2 p k) = px X (n im) k (a + p.val / 56) (0 + p.val % 56) := by
  unfold tap lef
  refine (dif_pos (by show 1 ≤ 8 + 56 * a + p.val; omega)).trans ?_
  refine (Ideal.mul_congr rfl (hm _ k (by show 8 ≤ 8 + 56 * a + p.val; omega)).1).trans ?_
  by_cases h : p.val % 56 = 0
  · rw [if_pos (by show (8 + 56 * a + p.val - 8) % 56 = 0; omega), mul_zero]
    symm; exact dif_neg (by omega)
  · rw [if_neg (by show ¬ (8 + 56 * a + p.val - 8) % 56 = 0; omega), mul_one]
    exact cen_px hx im _ k _ _ (by omega) (by omega) (by show 8 + 56 * a + p.val - 1 = _; omega)

/-- A tap of the copy moved up. -/
theorem tap_rig (hx : Images X n x) (hm : Masks mk) (im : Fin 2) (a : ℕ) (ha : a < 3) (ho : 8 + 56 * a ≤ 128) (p : Fin 3136) (k : Fin 128) :
    tap (rig x mk) im (8 + 56 * a) ho (ix2 p k) = px X (n im) k (a + p.val / 56) (2 + p.val % 56) := by
  unfold tap rig
  refine (dif_pos (by show 8 + 56 * a + p.val < 3263; omega)).trans ?_
  refine (Ideal.mul_congr rfl (hm _ k (by show 8 ≤ 8 + 56 * a + p.val; omega)).2).trans ?_
  by_cases h : p.val % 56 = 55
  · rw [if_pos (by show (8 + 56 * a + p.val - 8) % 56 = 55; omega), mul_zero]
    symm; exact dif_neg (by omega)
  · rw [if_neg (by show ¬ (8 + 56 * a + p.val - 8) % 56 = 55; omega), mul_one]
    exact cen_px hx im _ k _ _ (by omega) (by omega) (by show 8 + 56 * a + p.val + 1 = _; omega)

/-! ## The block -/

variable {W : FVec Ideal S256x128x3x3 .f32} {B : FVec Ideal S256 .f32} {w : FVec Ideal S1152x256 .bf16} {b : FVec Ideal S1x256 .f32}

/-- The weight block holds tap `(a, e)`'s weights in its 128 rows from `(3 a + e) 128` on. -/
def Weights (W : FVec Ideal S256x128x3x3 .f32) (w : FVec Ideal S1152x256 .bf16) : Prop :=
  ∀ (a e : Fin 3) (k : Fin 128) (o : Fin 256), w (ix2 ⟨(3 * a.val + e.val) * 128 + k.val, by omega⟩ o) = W (ix4 o k a e)

/-- One tap's product is its term of the convolution. -/
theorem part_eq (hw : Weights W w) (im : Fin 2) (s : FVec Ideal S3136x128 .bf16) (a e : Fin 3) (t : Fin 9)
    (ht : t.val = 3 * a.val + e.val) (p : Fin 3136) (o : Fin 256)
    (hs : ∀ k : Fin 128, s (ix2 p k) = px X (n im) k (a.val + p.val / 56) (e.val + p.val % 56)) :
    part s w t p o = tapSum X W a e (n im) o ⟨p.val / 56, by omega⟩ ⟨p.val % 56, by omega⟩ :=
  Finset.sum_congr rfl fun k _ => Ideal.mul_congr (hs k)
    ((congrArg w ((ix2_inj ..).2 ⟨Fin.ext (by dsimp only; rw [ht]), rfl⟩)).trans (hw a e k o))

/-- An element of the block the body leaves is the convolution there. -/
theorem out_at (hx : Images X n x) (hm : Masks mk) (hw : Weights W w) (hb : ∀ o : Fin 256, b (ix2 0 o) = B (ix1 o))
    (im : Fin 2) (p : Fin 3136) (o : Fin 256) :
    out x w mk b (ix3 im p o) = convAt X W B (n im) o ⟨p.val / 56, by omega⟩ ⟨p.val % 56, by omega⟩ := by
  refine (pay9_at _ _ _ _ _ _ _ _ _ w b p o).trans ?_
  unfold convAt
  refine Ideal.add_congr (Ideal.add_congr (Ideal.add_congr (Ideal.add_congr (Ideal.add_congr (Ideal.add_congr (Ideal.add_congr
    (Ideal.add_congr (Ideal.add_congr ?_ ?_) ?_) ?_) ?_) ?_) ?_) ?_) ?_) (hb o)
  · exact part_eq hw im _ 0 0 0 rfl p o fun k => tap_lef hx hm im 0 (by omega) _ p k
  · exact part_eq hw im _ 0 1 1 rfl p o fun k => tap_cen hx im 0 (by omega) _ p k
  · exact part_eq hw im _ 0 2 2 rfl p o fun k => tap_rig hx hm im 0 (by omega) _ p k
  · exact part_eq hw im _ 1 0 3 rfl p o fun k => tap_lef hx hm im 1 (by omega) _ p k
  · exact part_eq hw im _ 1 1 4 rfl p o fun k => tap_cen hx im 1 (by omega) _ p k
  · exact part_eq hw im _ 1 2 5 rfl p o fun k => tap_rig hx hm im 1 (by omega) _ p k
  · exact part_eq hw im _ 2 0 6 rfl p o fun k => tap_lef hx hm im 2 (by omega) _ p k
  · exact part_eq hw im _ 2 1 7 rfl p o fun k => tap_cen hx im 2 (by omega) _ p k
  · exact part_eq hw im _ 2 2 8 rfl p o fun k => tap_rig hx hm im 2 (by omega) _ p k

end

end Cert.KernelIdeal.Conv

end
-- ==== Proof.KernelIdeal.Entry.lean ====
/-
  What the region finds in the four arrays it reads: the images with pixels as rows, the weights with taps and input
  channels as rows, the bias as a row, and the two column masks.
-/
module

public import proofs.«01_k».proof.Proof.KernelIdeal.Run
public import proofs.«01_k».proof.Proof.KernelIdeal.Pure
public import Idealize.ShloMosaic.Lib.Pipeline.ValueKit
public import Idealize.ShloMosaic.Lib.Claim

@[expose] public section

set_option maxRecDepth 16384

noncomputable section

namespace Cert.KernelIdeal.Conv

open Cert.KernelIdeal Cert.KernelIdeal.Gen Cert.Conv
open Idealize.ShloMosaic Idealize.ShloMosaic.TcCoe Idealize.ShloMosaic.StableHlo

variable (m : (ℓ : Loc nD τ sig) → Buf (Elt Ideal) ℓ)

/-- A buffer at entry to the region: what the host operations before it leave there. -/
theorem entry (c : Dev nD) (r : Ref sig .tc) :
    V m c r = after [hostOps0, hostOps0_1, hostOps0_2, hostOps0_3, hostOps0_4].flatten (fun b => m (c, b)) (Proc.tc.devRef r) := rfl

/-! ## The masks -/

/-- The divisor of the column number as the host computes it: 56, with a guard against zero. -/
def width : IVec S_ 32 :=
  select (cmpi .eq (id (constantI S_ 32 56#32)) (constantI S_ 32 0#32)) (constantI S_ 32 1#32) (id (constantI S_ 32 56#32))

/-- The row numbers less the eight rows of margin. -/
def rowNo : IVec S3264 32 := subi (iotaInDim S3264 32 0) (broadcastInDim S3264 ![] bcast_S_S3264 (constantI S_ 32 8#32))

/-- The truncated remainder of the row numbers by the width. -/
def remNo : IVec S3264 32 := Host.remsi rowNo (broadcastInDim S3264 ![] bcast_S_S3264 width)

/-- The column numbers: the remainder with the sign of the divisor. -/
def colNo : IVec S3264 32 :=
  select
    (andi
      (cmpi .ne (cmpi .slt remNo (broadcastInDim S3264 ![] bcast_S_S3264 (constantI S_ 32 0#32)))
        (broadcastInDim S3264 ![] bcast_S_S3264 (cmpi .slt width (constantI S_ 32 0#32))))
      (cmpi .ne remNo (broadcastInDim S3264 ![] bcast_S_S3264 (constantI S_ 32 0#32))))
    (addi remNo (broadcastInDim S3264 ![] bcast_S_S3264 width)) remNo

/-- The rows whose column is not `e`. -/
def notCol (e : BitVec 32) : IVec S3264 1 := cmpi .ne colNo (broadcastInDim S3264 ![] bcast_S_S3264 (constantI S_ 32 e))

/-- The first mask's bits: from the margin on, the rows off column 0. -/
theorem notFirst_at : ∀ r : Fin 3264, 8 ≤ r.val → notCol 0#32 (ix1 r) = if (r.val - 8) % 56 = 0 then 0#1 else 1#1 := by
  decide +kernel

/-- The second mask's bits: from the margin on, the rows off column 55. -/
theorem notLast_at : ∀ r : Fin 3264, 8 ≤ r.val → notCol 55#32 (ix1 r) = if (r.val - 8) % 56 = 55 then 0#1 else 1#1 := by
  decide +kernel

/-- The two masks as one array, a bit per row repeated over the 128 lanes, as floats. -/
def maskArr : FVec Ideal S2x3264x128 .bf16 :=
  uitofp .bf16 (broadcastInDim S2x3264x128 ![0, 1, 2] bcast_S2x3264x1_S2x3264x128_0_1_2
    (broadcastInDim S2x3264x1 ![0, 1] bcast_S2x3264_S2x3264x1_0_1
      (concatenate S2x3264 0 [⟨S1x3264, broadcastInDim S1x3264 ![1] bcast_S3264_S1x3264_1 (notCol 0#32)⟩,
        ⟨S1x3264, broadcastInDim S1x3264 ![1] bcast_S3264_S1x3264_1 (notCol 55#32)⟩] concatenates_S1x3264_S1x3264_S2x3264_d0)))

set_option maxHeartbeats 2000000 in
/-- The third window's array at entry: the masks. -/
theorem masks_entry (c : Dev nD) : V m c main_v22 = maskArr := by
  rw [entry]
  simp only [hostOps0, hostOps0_1, hostOps0_2, hostOps0_3, hostOps0_4, List.flatten_cons, List.flatten_nil, List.append_nil,
    List.cons_append, List.nil_append, TRef.binary, TRef.unary, TRef.nullary, TRef.ternary, TRef.toBuf, TRef.ofBuf, cast_eq]
  after_results_simp
  after_results_loop
  rfl

/-- A bit as a number: one when set. -/
theorem bit_num (p : Prop) [Decidable p] : (((if p then 0#1 else 1#1 : BitVec 1).toNat : ℝ) : EReal) = if p then 0 else 1 := by
  by_cases h : p
  · rw [if_pos h, if_pos h]; simp
  · rw [if_neg h, if_neg h]; simp

/-- The masks' array holds the masks. -/
theorem masks_of : Masks maskArr := fun r l hr => by
  constructor
  · refine Eq.trans ?_ (bit_num ((r.val - 8) % 56 = 0))
    rw [← notFirst_at r hr]
    pointwise [maskArr]
    rfl
  · refine Eq.trans ?_ (bit_num ((r.val - 8) % 56 = 55))
    rw [← notLast_at r hr]
    pointwise [maskArr]
    rfl

/-! ## The images, the weights and the bias -/

set_option maxHeartbeats 2000000 in
/-- The first window's array at entry: the images transposed, their pixels as rows. -/
theorem images_entry (c : Dev nD) : V m c main_v1
    = shapeCast S32x3136x128 (transpose S32x56x56x128 [0, 2, 3, 1] (m ((c : Thread nD τ).loc main_arg0)) transposes_S32x128x56x56_S32x56x56x128_0_2_3_1)
        shapeCasts_S32x56x56x128_S32x3136x128 := by
  rw [entry]
  simp only [hostOps0, hostOps0_1, hostOps0_2, hostOps0_3, hostOps0_4, List.flatten_cons, List.flatten_nil, List.append_nil,
    List.cons_append, List.nil_append, TRef.binary, TRef.unary, TRef.nullary, TRef.ternary, TRef.toBuf, TRef.ofBuf, cast_eq]
  after_results_simp
  rfl

set_option maxHeartbeats 2000000 in
/-- The second window's array at entry: the weights transposed, taps and input channels as rows. -/
theorem weights_entry (c : Dev nD) : V m c main_v4
    = (truncf .bf16 (shapeCast S1152x256 (transpose S3x3x128x256 [2, 3, 1, 0]
        (m ((c : Thread nD τ).loc main_arg1) : FVec Ideal S256x128x3x3 .f32) transposes_S256x128x3x3_S3x3x128x256_2_3_1_0)
        shapeCasts_S3x3x128x256_S1152x256) bitsLt_bf16_f32 : FVec Ideal S1152x256 .bf16) := by
  rw [entry]
  simp only [hostOps0, hostOps0_1, hostOps0_2, hostOps0_3, hostOps0_4, List.flatten_cons, List.flatten_nil, List.append_nil,
    List.cons_append, List.nil_append, TRef.binary, TRef.unary, TRef.nullary, TRef.ternary, TRef.toBuf, TRef.ofBuf, cast_eq]
  after_results_simp
  rfl

set_option maxHeartbeats 2000000 in
/-- The fourth window's array at entry: the bias as a row. -/
theorem bias_entry (c : Dev nD) : V m c main_v5 = shapeCast S1x256 (m ((c : Thread nD τ).loc main_arg2)) shapeCasts_S256_S1x256 := by
  rw [entry]
  simp only [hostOps0, hostOps0_1, hostOps0_2, hostOps0_3, hostOps0_4, List.flatten_cons, List.flatten_nil, List.append_nil,
    List.cons_append, List.nil_append, TRef.binary, TRef.unary, TRef.nullary, TRef.ternary, TRef.toBuf, TRef.ofBuf, cast_eq]
  after_results_simp
  rfl

/-- An element of the image array: image, pixel, channel. -/
theorem images_at (c : Dev nD) (n : Fin 32) (p : Fin 3136) (k : Fin 128) : (V m c main_v1 : FVec Ideal S32x3136x128 .f32) (ix3 n p k)
    = (m ((c : Thread nD τ).loc main_arg0) : FVec Ideal S32x128x56x56 .f32) (ix4 n k ⟨p.val / 56, by omega⟩ ⟨p.val % 56, by omega⟩) := by
  rw [images_entry]
  pointwise

/-- An element of the weight array: tap and input channel, output channel. -/
theorem weights_at (c : Dev nD) (a e : Fin 3) (k : Fin 128) (o : Fin 256) :
    (V m c main_v4 : FVec Ideal S1152x256 .bf16) (ix2 ⟨(3 * a.val + e.val) * 128 + k.val, by omega⟩ o)
    = (m ((c : Thread nD τ).loc main_arg1) : FVec Ideal S256x128x3x3 .f32) (ix4 o k a e) := by
  rw [weights_entry]
  pointwise

/-- An element of the bias row. -/
theorem bias_at (c : Dev nD) (o : Fin 256) : (V m c main_v5 : FVec Ideal S1x256 .f32) (ix2 0 o)
    = (m ((c : Thread nD τ).loc main_arg2) : FVec Ideal S256 .f32) (ix1 o) := by
  rw [bias_entry]
  pointwise

end Cert.KernelIdeal.Conv

end
-- ==== Proof.KernelIdeal.Value.lean ====
/-
  What the kernel's program leaves at extended reals: the output window's array after the last grid point, element by
  element, and the result array the host makes of it — the convolution of the arguments.
-/
module

public import proofs.«01_k».proof.Proof.KernelIdeal.Entry

@[expose] public section

set_option maxRecDepth 16384

noncomputable section

namespace Cert.KernelIdeal.Conv

open Cert.KernelIdeal Cert.KernelIdeal.Gen Cert.Conv
open Idealize.ShloMosaic Idealize.ShloMosaic.TcCoe Idealize.SL.Sem
open Idealize.ShloMosaic.Pipeline (Dat)

variable (m : (ℓ : Loc nD τ sig) → Buf (Elt Ideal) ℓ)

/-- The blocks' places: point `t` takes the images of block `t` and leaves block `t`; the rest is whole at every point. -/
theorem idx : ∀ t : Fin cfg0.N, win0_0.index t = ![t.val, 0, 0] ∧ win0_1.index t = ![0, 0] ∧ win0_2.index t = ![0, 0, 0]
    ∧ win0_3.index t = ![0, 0] ∧ win0_4.index t = ![t.val, 0, 0] :=
  (by decide +kernel : ∀ t : Fin grid0.N, _)

/-- The number of the `im`-th image at point `t`. -/
def imgNo (t : Fin cfg0.N) (im : Fin 2) : Fin 32 :=
  ⟨2 * t.val + im.val, by have h : t.val < grid0.N := t.isLt; rw [N_0] at h; omega⟩

/-- The image block at point `t` holds its two images. -/
theorem images_blk (c : Dev nD) (t : Fin cfg0.N) : Images (m ((c : Thread nD τ).loc main_arg0)) (imgNo t) (iblk m c 0 t) := fun im p k => by
  refine Eq.trans ?_ (images_at m c (imgNo t im) p k)
  blk_ext [iblk, imgNo, idx t]

/-- The weight block is the weights. -/
theorem weights_blk (c : Dev nD) (t : Fin cfg0.N) : Weights (m ((c : Thread nD τ).loc main_arg1)) (iblk m c 1 t) := fun a e k o => by
  refine Eq.trans ?_ (weights_at m c a e k o)
  blk_ext [iblk, idx t]

/-- The mask block is the masks. -/
theorem masks_blk (c : Dev nD) (t : Fin cfg0.N) : Masks (iblk m c 2 t) := fun r l hr => by
  have h := masks_of r l hr
  rw [← masks_entry m c] at h
  refine ⟨Eq.trans ?_ h.1, Eq.trans ?_ h.2⟩
  · blk_ext [iblk, idx t]
  · blk_ext [iblk, idx t]

/-- The bias block is the bias. -/
theorem bias_blk (c : Dev nD) (t : Fin cfg0.N) (o : Fin 256) : (iblk m c 3 t : FVec Ideal S1x256 .f32) (ix2 0 o)
    = (m ((c : Thread nD τ).loc main_arg2) : FVec Ideal S256 .f32) (ix1 o) := by
  refine Eq.trans ?_ (bias_at m c o)
  blk_ext [iblk, idx t]

/-- The output array's formula: image, pixel, output channel. -/
def arr (X : FVec Ideal S32x128x56x56 .f32) (W : FVec Ideal S256x128x3x3 .f32) (B : FVec Ideal S256 .f32) : FVec Ideal S32x3136x256 .f32 :=
  fun j => convAt X W B (j 0) (j 2) ⟨(j 1).val / 56, by have h : (j 1).val < 3136 := (j 1).isLt; omega⟩
    ⟨(j 1).val % 56, by have h : (j 1).val < 3136 := (j 1).isLt; omega⟩

/-- The output block after point `t`. -/
theorem oblk_at (c : Dev nD) (t : Fin cfg0.N) (im : Fin 2) (p : Fin 3136) (o : Fin 256) : oblk m c t (ix3 im p o)
    = arr (m ((c : Thread nD τ).loc main_arg0)) (m ((c : Thread nD τ).loc main_arg1)) (m ((c : Thread nD τ).loc main_arg2)) (ix3 (imgNo t im) p o) :=
  out_at (images_blk m c t) (masks_blk m c t) (weights_blk m c t) (bias_blk m c t) im p o

/-- What the body leaves in the output window's buffer. -/
theorem after4 (c : Dev nD) (t : Fin cfg0.N) : (dats m 0 c).after 4 t = oblk m c t := rfl

/-- The output window's array after the run. -/
theorem final (c : Dev nD) : (dats m 0 c).arrAt 4 (cfgs 0).N
    = arr (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after4]
  idx_vars y
  refine (oblk_at m c t _ _ _).trans ?_
  blk_ext [imgNo, idx t]

/-- The result the host makes of the output array is the convolution. -/
theorem tail_eq (X : FVec Ideal S32x128x56x56 .f32) (W : FVec Ideal S256x128x3x3 .f32) (B : FVec Ideal S256 .f32) :
    transpose S32x256x56x56 [0, 3, 1, 2] (shapeCast S32x56x56x256 (arr X W B) shapeCasts_S32x3136x256_S32x56x56x256)
        transposes_S32x56x56x256_S32x256x56x56_0_3_1_2 = conv X W B := by
  funext j
  idx_vars j
  pointwise
  exact congrArg₂ (convAt X W B j0 j1) (Fin.ext (by show (j2.val * 56 + j3.val) / 56 = j2.val; omega))
    (Fin.ext (by show (j2.val * 56 + j3.val) % 56 = j3.val; omega))

/-- The output array as the region leaves it. -/
theorem region_out (c : Dev nD) : Pipeline.withArrays (cfgs 0).spec c (V0 m c) (fun w => (dats m 0 c).arrAt w (cfgs 0).N) (Proc.devRef .tc main_v23)
    = arr (m ((c : Thread nD τ).loc main_arg0)) (m ((c : Thread nD τ).loc main_arg1)) (m ((c : Thread nD τ).loc main_arg2)) :=
  (Pipeline.withArrays_arr (cfgs 0).spec (by decide) c (V0 m c) (fun w => (dats m 0 c).arrAt w (cfgs 0).N) 4).trans (final m c)

set_option maxHeartbeats 2000000 in
/-- The result array after the host operations that follow the region. -/
theorem result_eq (c : Dev nD) : Pipeline.afterTail₀ cfgs (dats m) 0 (V0 m) [hostOps1] c main_v25
    = conv (m ((c : Thread nD τ).loc main_arg0)) (m ((c : Thread nD τ).loc main_arg1)) (m ((c : Thread nD τ).loc main_arg2)) := by
  unfold Pipeline.afterTail₀
  simp only [hostOps1, List.flatten_cons, List.flatten_nil, List.append_nil]
  after_results_simp
  rw [region_out]
  exact tail_eq _ _ _

/-- The kernel's program runs and returns the convolution of its arguments, the arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v25)
          = conv (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v25 (Pipeline.mem_restRefs_of main_v25 (by decide) (by decide))).trans (result_eq m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩)
    (run_main m ρ)

end Cert.KernelIdeal.Conv

end
-- ==== Proof.ReferenceIdeal.Value.lean ====
/-
  The reference's result is the convolution's formula.
-/
module

public import proofs.«01_k».proof.Proof.Gen.ReferenceIdeal.Run
public import proofs.«01_k».proof.Proof.Spec

@[expose] public section

set_option maxRecDepth 16384

noncomputable section

namespace Cert.ReferenceIdeal.Conv

open Cert.ReferenceIdeal Cert.ReferenceIdeal.Gen Cert.Conv
open Idealize.ShloMosaic Idealize.ShloMosaic.TcCoe

/-- The reference's padded image is the bordered one. -/
theorem pad_at (X : FVec Ideal S32x128x56x56 .f32) (n : Fin 32) (k : Fin 128) (y x : Fin 58) :
    pad S32x128x58x58 ![0, 0, 1, 1] ![0, 0, 1, 1] ![0, 0, 0, 0] X (sitofp .f32 (constantI S_ 32 0#32))
      pads_S32x128x56x56_S32x128x58x58_000_000_110_110 h_S_ (ix4 n k y x) = px X n k y.val x.val := by
  pointwise
  unfold px
  split
  · rfl
  · show ((BitVec.toInt 0#32 : ℝ) : EReal) = 0
    simp

/-- One tap of the reference: the channel product of the shifted padded image with the tap's weights. -/
theorem tap_at (X : FVec Ideal S32x128x56x56 .f32) (W : FVec Ideal S256x128x3x3 .f32) (a b : ℕ) (ha : a < 3) (hb : b < 3)
    (h1 : Shape.Slices S32x128x58x58 ![0, 0, a, b] S32x128x56x56) (h2 : Shape.Slices S256x128x3x3 ![0, 0, a, b] S256x128x1x1)
    (j : S32x256x56x56.Idx) :
    transpose S32x256x56x56 [0, 3, 1, 2] (Host.dotGeneral dot_S32x128x56x56_S256x128_S32x56x56x256_1_1_023_0_n_n none
        (extractStridedSlice S32x128x56x56 ![0, 0, a, b]
          (pad S32x128x58x58 ![0, 0, 1, 1] ![0, 0, 1, 1] ![0, 0, 0, 0] X (sitofp .f32 (constantI S_ 32 0#32))
            pads_S32x128x56x56_S32x128x58x58_000_000_110_110 h_S_) h1)
        (shapeCast _ (extractStridedSlice S256x128x1x1 ![0, 0, a, b] W h2) shapeCasts_S256x128x1x1_S256x128))
      transposes_S32x56x56x256_S32x256x56x56_0_3_1_2 j = tapSum X W ⟨a, ha⟩ ⟨b, hb⟩ (j 0) (j 1) (j 2) (j 3) := by
  idx_vars j
  generalize hP : pad S32x128x58x58 ![0, 0, 1, 1] ![0, 0, 1, 1] ![0, 0, 0, 0] X (sitofp .f32 (constantI S_ 32 0#32))
            pads_S32x128x56x56_S32x128x58x58_000_000_110_110 h_S_ = P
  pointwise
  subst hP
  unfold tapSum
  exact Finset.sum_congr rfl fun k _ => Ideal.mul_congr (pad_at X j0 k _ _) rfl

/-- The sum starts at zero. -/
theorem first_at (T : FVec Ideal S32x256x56x56 .f32) (j : S32x256x56x56.Idx) (e : EReal) (h : T j = e) :
    addf (broadcastInDim S32x256x56x56 ![] bcast_S_S32x256x56x56 (constant S_ .f32 0x00000000#32)) T j = e := by
  pointwise
  exact h

/-- The bias at an output element. -/
theorem bias_at (B : FVec Ideal S256 .f32) (j : S32x256x56x56.Idx) :
    broadcastInDim S32x256x56x56 ![0, 1, 2, 3] bcast_S1x256x1x1_S32x256x56x56_0_1_2_3
      (broadcastInDim S1x256x1x1 ![1] bcast_S256_S1x256x1x1_1 B) j = B (ix1 (j 1)) := by
  pointwise

variable (m : (ℓ : Loc nD τ sig) → Buf (Elt Ideal) ℓ) (c : Dev nD)

/-- The reference's result is the convolution of its arguments. -/
theorem res_eq : Value.res_main_v58 m c = conv (m ((c.tc : Thread nD τ).loc main_arg0)) (m ((c.tc : Thread nD τ).loc main_arg1))
    (m ((c.tc : Thread nD τ).loc main_arg2)) := by
  funext j
  unfold Value.res_main_v58 conv convAt
  refine Ideal.add_congr (Ideal.add_congr (Ideal.add_congr (Ideal.add_congr (Ideal.add_congr (Ideal.add_congr (Ideal.add_congr
    (Ideal.add_congr (Ideal.add_congr ?_ ?_) ?_) ?_) ?_) ?_) ?_) ?_) ?_) ?_
  · exact first_at _ j _ (tap_at _ _ 0 0 (by omega) (by omega) _ _ j)
  · exact tap_at _ _ 0 1 (by omega) (by omega) _ _ j
  · exact tap_at _ _ 0 2 (by omega) (by omega) _ _ j
  · exact tap_at _ _ 1 0 (by omega) (by omega) _ _ j
  · exact tap_at _ _ 1 1 (by omega) (by omega) _ _ j
  · exact tap_at _ _ 1 2 (by omega) (by omega) _ _ j
  · exact tap_at _ _ 2 0 (by omega) (by omega) _ _ j
  · exact tap_at _ _ 2 1 (by omega) (by omega) _ _ j
  · exact tap_at _ _ 2 2 (by omega) (by omega) _ _ j
  · exact bias_at _ j

end Cert.ReferenceIdeal.Conv

end
-- ==== Proof.lean ====
/-
  The certificate's claim, assembled: the kernel's program and its idealization run (Proof/Kernel/Run.lean,
  Proof/KernelIdeal/Run.lean), the reference runs, and at extended reals the kernel and the reference both return the
  convolution of their arguments (Proof/KernelIdeal/Value.lean, Proof/ReferenceIdeal/Value.lean).
-/
module

public import proofs.«01_k».proof.Defs
public import proofs.«01_k».proof.Proof.Kernel.Run
public import proofs.«01_k».proof.Proof.KernelIdeal.Value
public import proofs.«01_k».proof.Proof.ReferenceIdeal.Value
public import proofs.«01_k».proof.Proof.Gen.ReferenceIdeal.Run
public import Idealize.ShloMosaic.Lib.Claim

@[expose] public section

noncomputable section

namespace Cert.Proof

open Idealize.ShloMosaic Idealize.SL.Sem

/-- The kernel's program terminates without fault, leaves its arguments as they were and every counter at zero. -/
theorem frame_P : Cert.quiescent_Kernel := fun m ρ _ => Cert.Kernel.Conv.run_quiescent m ρ

/-- The same of the kernel's program over the extended reals. -/
theorem frame_PI : Cert.quiescent_KernelIdeal := fun m ρ _ => Cert.KernelIdeal.Conv.run_quiescent m ρ

/-- The same of the reference over the extended reals. -/
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals, from equal arguments, the kernel and the reference both return the convolution with a border of
    zeros, plus the bias. -/
theorem algebraic : Cert.algebraic_KernelIdeal_ReferenceIdeal := fun m g m' g' _ hagree =>
  ⟨fun c => Cert.Conv.conv (m (c.tc.loc Cert.KernelIdeal.main_arg0)) (m (c.tc.loc Cert.KernelIdeal.main_arg1))
      (m (c.tc.loc Cert.KernelIdeal.main_arg2)),
    Cert.KernelIdeal.Conv.run_value m g,
    (θ_run Cert.ReferenceIdeal.defs _ _).mono (fun r h c => ⟨by
        rw [(h c).1, Cert.ReferenceIdeal.Conv.res_eq m' c, (hagree c).1, (hagree c).2.1, (hagree c).2.2], (h c).2⟩)
      (Cert.ReferenceIdeal.Value.run m' g')⟩

/-- The five claims together. -/
theorem claim : Cert.Claim :=
  ⟨Cert.Kernel.Gen.facts, Cert.KernelIdeal.Gen.facts, Cert.ReferenceIdeal.Gen.facts, frame_P, frame_PI, frame_RI, trivial, algebraic⟩

end Cert.Proof

end
